-- ==== Defs.lean ====
def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11_8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernelIdeal : Cert.KernelIdeal.Facts) (hReferenceIdeal : Cert.ReferenceIdeal.Facts) (hPre_finite : Cert.Pre_finite.Facts),
    quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ algebraic_KernelIdeal_ReferenceIdeal_pre_finite (hKernelIdeal := hKernelIdeal) (hReferenceIdeal := hReferenceIdeal) (hPre_finite := hPre_finite)
-- ==== Pre_finite.lean ====
abbrev S_ : Shape := ⟨0, ![]⟩
abbrev S8x20000x128 : Shape := ⟨3, ![8, 20000, 128]⟩

class Facts : Prop where
  bcast_S_S8x20000x128 : S_.BroadcastsInDim S8x20000x128 (![] : Fin 0 → Fin S8x20000x128.rank)

variable [Facts]

def fn {F : FTy → Type} [FloatOps F] (main_arg0 : IVec S_ 32) (main_arg1 : FVec F S8x20000x128 .f32) : IVec S8x20000x128 1 :=
  let main_v0 : FVec F S8x20000x128 .f32 := Host.absf main_arg1
  let main_cst : FVec F S_ .f32 := constant S_ .f32 0x7F800000#32
  let main_v1 : FVec F S8x20000x128 .f32 := broadcastInDim S8x20000x128 ![] bcast_S_S8x20000x128 main_cst
  let main_v2 : IVec S8x20000x128 1 := cmpf .olt main_v0 main_v1
  main_v2
-- ==== KernelIdeal.lean ====
abbrev S_ : Shape := ⟨0, ![]⟩
abbrev S8x20000x128 : Shape := ⟨3, ![8, 20000, 128]⟩
abbrev S8x16x128 : Shape := ⟨3, ![8, 16, 128]⟩
abbrev S1x20000x128 : Shape := ⟨3, ![1, 20000, 128]⟩
abbrev S1x16x128 : Shape := ⟨3, ![1, 16, 128]⟩
abbrev S20000x128 : Shape := ⟨2, ![20000, 128]⟩
abbrev S8x128x2500 : Shape := ⟨3, ![8, 128, 2500]⟩
abbrev S8x2500 : Shape := ⟨2, ![8, 2500]⟩
abbrev S128x128 : Shape := ⟨2, ![128, 128]⟩
abbrev S128x1 : Shape := ⟨2, ![128, 1]⟩
abbrev S1x128 : Shape := ⟨2, ![1, 128]⟩
abbrev S1x2500x128 : Shape := ⟨3, ![1, 2500, 128]⟩
abbrev S2500x128 : Shape := ⟨2, ![2500, 128]⟩
abbrev S1x2500 : Shape := ⟨2, ![1, 2500]⟩
abbrev S2500 : Shape := ⟨1, ![2500]⟩
abbrev S2500x1 : Shape := ⟨2, ![2500, 1]⟩
abbrev S8x1 : Shape := ⟨2, ![8, 1]⟩
abbrev S1x8x2500 : Shape := ⟨3, ![1, 8, 2500]⟩
abbrev S1 : Shape := ⟨1, ![1]⟩
abbrev S1x1x1 : Shape := ⟨3, ![1, 1, 1]⟩
abbrev S1x128x1 : Shape := ⟨3, ![1, 128, 1]⟩
abbrev S8x1x2500 : Shape := ⟨3, ![8, 1, 2500]⟩
abbrev S1x1x128 : Shape := ⟨3, ![1, 1, 128]⟩
abbrev S8 : Shape := ⟨1, ![8]⟩
abbrev S1x8x1 : Shape := ⟨3, ![1, 8, 1]⟩
abbrev S128 : Shape := ⟨1, ![128]⟩
abbrev S256x128 : Shape := ⟨2, ![256, 128]⟩
abbrev S256x2500 : Shape := ⟨2, ![256, 2500]⟩
abbrev S128x2500 : Shape := ⟨2, ![128, 2500]⟩
abbrev S1x128x2500 : Shape := ⟨3, ![1, 128, 2500]⟩

abbrev nBuf : Space → Nat
  | .hbm => 3
  | .vmem => 10
  | .smem => 0
  | _ => 0

abbrev bufTy : (tb : Table) → Fin (tcTables nBuf tb) → BufTy
  | .hbm, ⟨0, _⟩ => ⟨S_, .i32⟩
  | .hbm, ⟨1, _⟩ => ⟨S8x20000x128, .f32⟩
  | .hbm, ⟨2, _⟩ => ⟨S8x16x128, .f32⟩
  | .local _ .vmem, ⟨0, _⟩ => ⟨S1x20000x128, .f32⟩
  | .local _ .vmem, ⟨1, _⟩ => ⟨S1x20000x128, .f32⟩
  | .local _ .vmem, ⟨2, _⟩ => ⟨S1x16x128, .f32⟩
  | .local _ .vmem, ⟨3, _⟩ => ⟨S1x16x128, .f32⟩
  | .local _ .vmem, ⟨4, _⟩ => ⟨S20000x128, .bf16⟩
  | .local _ .vmem, ⟨5, _⟩ => ⟨S20000x128, .bf16⟩
  | .local _ .vmem, ⟨6, _⟩ => ⟨S8x128x2500, .f32⟩
  | .local _ .vmem, ⟨7, _⟩ => ⟨S8x2500, .f32⟩
  | .local _ .vmem, ⟨8, _⟩ => ⟨S128x128, .f32⟩
  | .local _ .vmem, ⟨9, _⟩ => ⟨S128x1, .i32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def k0_off1 (v306 : BitVec 32) : Fin 3 → Nat :=
  let c0_114 : Index := 0#32
  let v314 : Index := Scalar.indexCast v306
  let c0_115 : Index := 0#32
  ![0, v314.toNat, 0]
def k0_cond1 (v300 : BitVec 1) : BitVec 1 :=
  let v307 : BitVec 32 := Scalar.extui v300
  let c0_i32_111 : BitVec 32 := 0#32
  let v308 : BitVec 1 := Scalar.cmpi .ne v307 c0_i32_111
  v308

def k0_chk1 (v300 : BitVec 1) (v306 : BitVec 32) : Prop :=
  (∀ (k0_h1 : k0_cond1 v300 = 1#1), ∀ a, (k0_off1 v306) a + S8x1x2500.size a ≤ S8x128x2500.size a)
theorem k0_off1_inb : ∀ (v300 : BitVec 1) (v306 : BitVec 32) (k0_hw1 : k0_chk1 v300 v306), ∀ (k0_h1 : k0_cond1 v300 = 1#1), ∀ a, (k0_off1 v306) a + S8x1x2500.size a ≤ S8x128x2500.size a := fun v300 v306 k0_hw1 k0_h1 => k0_hw1 k0_h1

def k0_off2 (v289 : BitVec 32) : Fin 3 → Nat :=
  let c0_121 : Index := 0#32
  let v327 : Index := Scalar.indexCast v289
  let c0_122 : Index := 0#32
  ![0, v327.toNat, 0]

def k0_off3 (arg9 : BitVec 32) : Fin 3 → Nat :=
  let c0_123 : Index := 0#32
  let v330 : Index := Scalar.indexCast arg9
  let c0_124 : Index := 0#32
  ![0, v330.toNat, 0]

def k0_chk2 (arg9 : BitVec 32) (v289 : BitVec 32) (v300 : BitVec 1) : Prop :=
  (∀ (k0_h1 : k0_cond1 v300 = 1#1), ∀ a, (k0_off2 v289) a + S1x1x128.size a ≤ S1x20000x128.size a) ∧
  (∀ (k0_h1 : k0_cond1 v300 = 1#1), ∀ a, (k0_off3 arg9) a + S1x1x128.size a ≤ S1x16x128.size a)
theorem k0_off2_inb : ∀ (arg9 : BitVec 32) (v289 : BitVec 32) (v300 : BitVec 1) (k0_hw2 : k0_chk2 arg9 v289 v300), ∀ (k0_h1 : k0_cond1 v300 = 1#1), ∀ a, (k0_off2 v289) a + S1x1x128.size a ≤ S1x20000x128.size a := fun arg9 v289 v300 k0_hw2 k0_h1 => k0_hw2.1 k0_h1
theorem k0_off3_inb : ∀ (arg9 : BitVec 32) (v289 : BitVec 32) (v300 : BitVec 1) (k0_hw2 : k0_chk2 arg9 v289 v300), ∀ (k0_h1 : k0_cond1 v300 = 1#1), ∀ a, (k0_off3 arg9) a + S1x1x128.size a ≤ S1x16x128.size a := fun arg9 v289 v300 k0_hw2 k0_h1 => k0_hw2.2 k0_h1

def k0_off4 (v340 : BitVec 32) : Fin 3 → Nat :=
  let c0_126 : Index := 0#32
  let v341 : Index := Scalar.indexCast v340
  let c0_127 : Index := 0#32
  ![0, v341.toNat, 0]
def k0_cond2 (v300 : BitVec 1) : BitVec 1 :=
  let v_true : BitVec 1 := 1#1
  let v309 : BitVec 1 := Scalar.xori v300 v_true
  let v310 : BitVec 32 := Scalar.extui v309
  let c0_i32_112 : BitVec 32 := 0#32
  let v311 : BitVec 1 := Scalar.cmpi .ne v310 c0_i32_112
  v311

def k0_chk3 (v300 : BitVec 1) (v340 : BitVec 32) : Prop :=
  (∀ (k0_h2 : k0_cond2 v300 = 1#1), ∀ a, (k0_off4 v340) a + S1x1x128.size a ≤ S1x20000x128.size a)
theorem k0_off4_inb : ∀ (v300 : BitVec 1) (v340 : BitVec 32) (k0_hw3 : k0_chk3 v300 v340), ∀ (k0_h2 : k0_cond2 v300 = 1#1), ∀ a, (k0_off4 v340) a + S1x1x128.size a ≤ S1x20000x128.size a := fun v300 v340 k0_hw3 k0_h2 => k0_hw3 k0_h2

def k0_off5 (v354 : BitVec 32) : Fin 3 → Nat :=
  let c0_133 : Index := 0#32
  let v355 : Index := Scalar.indexCast v354
  let c0_134 : Index := 0#32
  ![0, v355.toNat, 0]

def k0_chk4 (v300 : BitVec 1) (v354 : BitVec 32) : Prop :=
  (∀ (k0_h2 : k0_cond2 v300 = 1#1), ∀ a, (k0_off5 v354) a + S1x1x128.size a ≤ S1x20000x128.size a)
theorem k0_off5_inb : ∀ (v300 : BitVec 1) (v354 : BitVec 32) (k0_hw4 : k0_chk4 v300 v354), ∀ (k0_h2 : k0_cond2 v300 = 1#1), ∀ a, (k0_off5 v354) a + S1x1x128.size a ≤ S1x20000x128.size a := fun v300 v354 k0_hw4 k0_h2 => k0_hw4 k0_h2

def k0_off6 (v368 : BitVec 32) : Fin 3 → Nat :=
  let c0_139 : Index := 0#32
  let v369 : Index := Scalar.indexCast v368
  let c0_140 : Index := 0#32
  ![0, v369.toNat, 0]

def k0_chk5 (v300 : BitVec 1) (v368 : BitVec 32) : Prop :=
  (∀ (k0_h2 : k0_cond2 v300 = 1#1), ∀ a, (k0_off6 v368) a + S1x1x128.size a ≤ S1x20000x128.size a)
theorem k0_off6_inb : ∀ (v300 : BitVec 1) (v368 : BitVec 32) (k0_hw5 : k0_chk5 v300 v368), ∀ (k0_h2 : k0_cond2 v300 = 1#1), ∀ a, (k0_off6 v368) a + S1x1x128.size a ≤ S1x20000x128.size a := fun v300 v368 k0_hw5 k0_h2 => k0_hw5 k0_h2

def k0_off7 (v382 : BitVec 32) : Fin 3 → Nat :=
  let c0_145 : Index := 0#32
  let v383 : Index := Scalar.indexCast v382
  let c0_146 : Index := 0#32
  ![0, v383.toNat, 0]

def k0_chk6 (v300 : BitVec 1) (v382 : BitVec 32) : Prop :=
  (∀ (k0_h2 : k0_cond2 v300 = 1#1), ∀ a, (k0_off7 v382) a + S1x1x128.size a ≤ S1x20000x128.size a)
theorem k0_off7_inb : ∀ (v300 : BitVec 1) (v382 : BitVec 32) (k0_hw6 : k0_chk6 v300 v382), ∀ (k0_h2 : k0_cond2 v300 = 1#1), ∀ a, (k0_off7 v382) a + S1x1x128.size a ≤ S1x20000x128.size a := fun v300 v382 k0_hw6 k0_h2 => k0_hw6 k0_h2

def k0_off8 (v396 : BitVec 32) : Fin 3 → Nat :=
  let c0_151 : Index := 0#32
  let v397 : Index := Scalar.indexCast v396
  let c0_152 : Index := 0#32
  ![0, v397.toNat, 0]

def k0_chk7 (v300 : BitVec 1) (v396 : BitVec 32) : Prop :=
  (∀ (k0_h2 : k0_cond2 v300 = 1#1), ∀ a, (k0_off8 v396) a + S1x1x128.size a ≤ S1x20000x128.size a)
theorem k0_off8_inb : ∀ (v300 : BitVec 1) (v396 : BitVec 32) (k0_hw7 : k0_chk7 v300 v396), ∀ (k0_h2 : k0_cond2 v300 = 1#1), ∀ a, (k0_off8 v396) a + S1x1x128.size a ≤ S1x20000x128.size a := fun v300 v396 k0_hw7 k0_h2 => k0_hw7 k0_h2

def k0_off9 (v410 : BitVec 32) : Fin 3 → Nat :=
  let c0_157 : Index := 0#32
  let v411 : Index := Scalar.indexCast v410
  let c0_158 : Index := 0#32
  ![0, v411.toNat, 0]

def k0_chk8 (v300 : BitVec 1) (v410 : BitVec 32) : Prop :=
  (∀ (k0_h2 : k0_cond2 v300 = 1#1), ∀ a, (k0_off9 v410) a + S1x1x128.size a ≤ S1x20000x128.size a)
theorem k0_off9_inb : ∀ (v300 : BitVec 1) (v410 : BitVec 32) (k0_hw8 : k0_chk8 v300 v410), ∀ (k0_h2 : k0_cond2 v300 = 1#1), ∀ a, (k0_off9 v410) a + S1x1x128.size a ≤ S1x20000x128.size a := fun v300 v410 k0_hw8 k0_h2 => k0_hw8 k0_h2

def k0_off10 (v424 : BitVec 32) : Fin 3 → Nat :=
  let c0_163 : Index := 0#32
  let v425 : Index := Scalar.indexCast v424
  let c0_164 : Index := 0#32
  ![0, v425.toNat, 0]

def k0_chk9 (v300 : BitVec 1) (v424 : BitVec 32) : Prop :=
  (∀ (k0_h2 : k0_cond2 v300 = 1#1), ∀ a, (k0_off10 v424) a + S1x1x128.size a ≤ S1x20000x128.size a)
theorem k0_off10_inb : ∀ (v300 : BitVec 1) (v424 : BitVec 32) (k0_hw9 : k0_chk9 v300 v424), ∀ (k0_h2 : k0_cond2 v300 = 1#1), ∀ a, (k0_off10 v424) a + S1x1x128.size a ≤ S1x20000x128.size a := fun v300 v424 k0_hw9 k0_h2 => k0_hw9 k0_h2

def k0_off11 (v438 : BitVec 32) : Fin 3 → Nat :=
  let c0_169 : Index := 0#32
  let v439 : Index := Scalar.indexCast v438
  let c0_170 : Index := 0#32
  ![0, v439.toNat, 0]

def k0_chk10 (v300 : BitVec 1) (v438 : BitVec 32) : Prop :=
  (∀ (k0_h2 : k0_cond2 v300 = 1#1), ∀ a, (k0_off11 v438) a + S1x1x128.size a ≤ S1x20000x128.size a)
theorem k0_off11_inb : ∀ (v300 : BitVec 1) (v438 : BitVec 32) (k0_hw10 : k0_chk10 v300 v438), ∀ (k0_h2 : k0_cond2 v300 = 1#1), ∀ a, (k0_off11 v438) a + S1x1x128.size a ≤ S1x20000x128.size a := fun v300 v438 k0_hw10 k0_h2 => k0_hw10 k0_h2

def k0_off12 (v470 : BitVec 32) : Fin 3 → Nat :=
  let c0_182 : Index := 0#32
  let v471 : Index := Scalar.indexCast v470
  let c0_183 : Index := 0#32
  ![0, v471.toNat, 0]

def k0_chk11 (v300 : BitVec 1) (v470 : BitVec 32) : Prop :=
  (∀ (k0_h2 : k0_cond2 v300 = 1#1), ∀ a, (k0_off12 v470) a + S1x1x128.size a ≤ S1x20000x128.size a)
theorem k0_off12_inb : ∀ (v300 : BitVec 1) (v470 : BitVec 32) (k0_hw11 : k0_chk11 v300 v470), ∀ (k0_h2 : k0_cond2 v300 = 1#1), ∀ a, (k0_off12 v470) a + S1x1x128.size a ≤ S1x20000x128.size a := fun v300 v470 k0_hw11 k0_h2 => k0_hw11 k0_h2

def k0_off13 (v484 : BitVec 32) : Fin 3 → Nat :=
  let c0_189 : Index := 0#32
  let v485 : Index := Scalar.indexCast v484
  let c0_190 : Index := 0#32
  ![0, v485.toNat, 0]

def k0_chk12 (v300 : BitVec 1) (v484 : BitVec 32) : Prop :=
  (∀ (k0_h2 : k0_cond2 v300 = 1#1), ∀ a, (k0_off13 v484) a + S1x1x128.size a ≤ S1x20000x128.size a)
theorem k0_off13_inb : ∀ (v300 : BitVec 1) (v484 : BitVec 32) (k0_hw12 : k0_chk12 v300 v484), ∀ (k0_h2 : k0_cond2 v300 = 1#1), ∀ a, (k0_off13 v484) a + S1x1x128.size a ≤ S1x20000x128.size a := fun v300 v484 k0_hw12 k0_h2 => k0_hw12 k0_h2

def k0_off14 (v498 : BitVec 32) : Fin 3 → Nat :=
  let c0_195 : Index := 0#32
  let v499 : Index := Scalar.indexCast v498
  let c0_196 : Index := 0#32
  ![0, v499.toNat, 0]

def k0_chk13 (v300 : BitVec 1) (v498 : BitVec 32) : Prop :=
  (∀ (k0_h2 : k0_cond2 v300 = 1#1), ∀ a, (k0_off14 v498) a + S1x1x128.size a ≤ S1x20000x128.size a)
theorem k0_off14_inb : ∀ (v300 : BitVec 1) (v498 : BitVec 32) (k0_hw13 : k0_chk13 v300 v498), ∀ (k0_h2 : k0_cond2 v300 = 1#1), ∀ a, (k0_off14 v498) a + S1x1x128.size a ≤ S1x20000x128.size a := fun v300 v498 k0_hw13 k0_h2 => k0_hw13 k0_h2

def k0_off15 (v512 : BitVec 32) : Fin 3 → Nat :=
  let c0_201 : Index := 0#32
  let v513 : Index := Scalar.indexCast v512
  let c0_202 : Index := 0#32
  ![0, v513.toNat, 0]

def k0_chk14 (v300 : BitVec 1) (v512 : BitVec 32) : Prop :=
  (∀ (k0_h2 : k0_cond2 v300 = 1#1), ∀ a, (k0_off15 v512) a + S1x1x128.size a ≤ S1x20000x128.size a)
theorem k0_off15_inb : ∀ (v300 : BitVec 1) (v512 : BitVec 32) (k0_hw14 : k0_chk14 v300 v512), ∀ (k0_h2 : k0_cond2 v300 = 1#1), ∀ a, (k0_off15 v512) a + S1x1x128.size a ≤ S1x20000x128.size a := fun v300 v512 k0_hw14 k0_h2 => k0_hw14 k0_h2

def k0_off16 (v526 : BitVec 32) : Fin 3 → Nat :=
  let c0_207 : Index := 0#32
  let v527 : Index := Scalar.indexCast v526
  let c0_208 : Index := 0#32
  ![0, v527.toNat, 0]

def k0_chk15 (v300 : BitVec 1) (v526 : BitVec 32) : Prop :=
  (∀ (k0_h2 : k0_cond2 v300 = 1#1), ∀ a, (k0_off16 v526) a + S1x1x128.size a ≤ S1x20000x128.size a)
theorem k0_off16_inb : ∀ (v300 : BitVec 1) (v526 : BitVec 32) (k0_hw15 : k0_chk15 v300 v526), ∀ (k0_h2 : k0_cond2 v300 = 1#1), ∀ a, (k0_off16 v526) a + S1x1x128.size a ≤ S1x20000x128.size a := fun v300 v526 k0_hw15 k0_h2 => k0_hw15 k0_h2

def k0_off17 (v540 : BitVec 32) : Fin 3 → Nat :=
  let c0_213 : Index := 0#32
  let v541 : Index := Scalar.indexCast v540
  let c0_214 : Index := 0#32
  ![0, v541.toNat, 0]

def k0_chk16 (v300 : BitVec 1) (v540 : BitVec 32) : Prop :=
  (∀ (k0_h2 : k0_cond2 v300 = 1#1), ∀ a, (k0_off17 v540) a + S1x1x128.size a ≤ S1x20000x128.size a)
theorem k0_off17_inb : ∀ (v300 : BitVec 1) (v540 : BitVec 32) (k0_hw16 : k0_chk16 v300 v540), ∀ (k0_h2 : k0_cond2 v300 = 1#1), ∀ a, (k0_off17 v540) a + S1x1x128.size a ≤ S1x20000x128.size a := fun v300 v540 k0_hw16 k0_h2 => k0_hw16 k0_h2

def k0_off18 (v554 : BitVec 32) : Fin 3 → Nat :=
  let c0_219 : Index := 0#32
  let v555 : Index := Scalar.indexCast v554
  let c0_220 : Index := 0#32
  ![0, v555.toNat, 0]

def k0_chk17 (v300 : BitVec 1) (v554 : BitVec 32) : Prop :=
  (∀ (k0_h2 : k0_cond2 v300 = 1#1), ∀ a, (k0_off18 v554) a + S1x1x128.size a ≤ S1x20000x128.size a)
theorem k0_off18_inb : ∀ (v300 : BitVec 1) (v554 : BitVec 32) (k0_hw17 : k0_chk17 v300 v554), ∀ (k0_h2 : k0_cond2 v300 = 1#1), ∀ a, (k0_off18 v554) a + S1x1x128.size a ≤ S1x20000x128.size a := fun v300 v554 k0_hw17 k0_h2 => k0_hw17 k0_h2

def k0_off19 (v568 : BitVec 32) : Fin 3 → Nat :=
  let c0_225 : Index := 0#32
  let v569 : Index := Scalar.indexCast v568
  let c0_226 : Index := 0#32
  ![0, v569.toNat, 0]

def k0_chk18 (v300 : BitVec 1) (v568 : BitVec 32) : Prop :=
  (∀ (k0_h2 : k0_cond2 v300 = 1#1), ∀ a, (k0_off19 v568) a + S1x1x128.size a ≤ S1x20000x128.size a)
theorem k0_off19_inb : ∀ (v300 : BitVec 1) (v568 : BitVec 32) (k0_hw18 : k0_chk18 v300 v568), ∀ (k0_h2 : k0_cond2 v300 = 1#1), ∀ a, (k0_off19 v568) a + S1x1x128.size a ≤ S1x20000x128.size a := fun v300 v568 k0_hw18 k0_h2 => k0_hw18 k0_h2

def k0_off20 (v600 : BitVec 32) : Fin 3 → Nat :=
  let c0_237 : Index := 0#32
  let v601 : Index := Scalar.indexCast v600
  let c0_238 : Index := 0#32
  ![0, v601.toNat, 0]

def k0_chk19 (v300 : BitVec 1) (v600 : BitVec 32) : Prop :=
  (∀ (k0_h2 : k0_cond2 v300 = 1#1), ∀ a, (k0_off20 v600) a + S1x1x128.size a ≤ S1x20000x128.size a)
theorem k0_off20_inb : ∀ (v300 : BitVec 1) (v600 : BitVec 32) (k0_hw19 : k0_chk19 v300 v600), ∀ (k0_h2 : k0_cond2 v300 = 1#1), ∀ a, (k0_off20 v600) a + S1x1x128.size a ≤ S1x20000x128.size a := fun v300 v600 k0_hw19 k0_h2 => k0_hw19 k0_h2

def k0_off21 (v614 : BitVec 32) : Fin 3 → Nat :=
  let c0_244 : Index := 0#32
  let v615 : Index := Scalar.indexCast v614
  let c0_245 : Index := 0#32
  ![0, v615.toNat, 0]

def k0_chk20 (v300 : BitVec 1) (v614 : BitVec 32) : Prop :=
  (∀ (k0_h2 : k0_cond2 v300 = 1#1), ∀ a, (k0_off21 v614) a + S1x1x128.size a ≤ S1x20000x128.size a)
theorem k0_off21_inb : ∀ (v300 : BitVec 1) (v614 : BitVec 32) (k0_hw20 : k0_chk20 v300 v614), ∀ (k0_h2 : k0_cond2 v300 = 1#1), ∀ a, (k0_off21 v614) a + S1x1x128.size a ≤ S1x20000x128.size a := fun v300 v614 k0_hw20 k0_h2 => k0_hw20 k0_h2

def k0_off22 (v628 : BitVec 32) : Fin 3 → Nat :=
  let c0_250 : Index := 0#32
  let v629 : Index := Scalar.indexCast v628
  let c0_251 : Index := 0#32
  ![0, v629.toNat, 0]

def k0_chk21 (v300 : BitVec 1) (v628 : BitVec 32) : Prop :=
  (∀ (k0_h2 : k0_cond2 v300 = 1#1), ∀ a, (k0_off22 v628) a + S1x1x128.size a ≤ S1x20000x128.size a)
theorem k0_off22_inb : ∀ (v300 : BitVec 1) (v628 : BitVec 32) (k0_hw21 : k0_chk21 v300 v628), ∀ (k0_h2 : k0_cond2 v300 = 1#1), ∀ a, (k0_off22 v628) a + S1x1x128.size a ≤ S1x20000x128.size a := fun v300 v628 k0_hw21 k0_h2 => k0_hw21 k0_h2

def k0_off23 (v642 : BitVec 32) : Fin 3 → Nat :=
  let c0_256 : Index := 0#32
  let v643 : Index := Scalar.indexCast v642
  let c0_257 : Index := 0#32
  ![0, v643.toNat, 0]

def k0_chk22 (v300 : BitVec 1) (v642 : BitVec 32) : Prop :=
  (∀ (k0_h2 : k0_cond2 v300 = 1#1), ∀ a, (k0_off23 v642) a + S1x1x128.size a ≤ S1x20000x128.size a)
theorem k0_off23_inb : ∀ (v300 : BitVec 1) (v642 : BitVec 32) (k0_hw22 : k0_chk22 v300 v642), ∀ (k0_h2 : k0_cond2 v300 = 1#1), ∀ a, (k0_off23 v642) a + S1x1x128.size a ≤ S1x20000x128.size a := fun v300 v642 k0_hw22 k0_h2 => k0_hw22 k0_h2

def k0_off24 (v656 : BitVec 32) : Fin 3 → Nat :=
  let c0_262 : Index := 0#32
  let v657 : Index := Scalar.indexCast v656
  let c0_263 : Index := 0#32
  ![0, v657.toNat, 0]

def k0_chk23 (v300 : BitVec 1) (v656 : BitVec 32) : Prop :=
  (∀ (k0_h2 : k0_cond2 v300 = 1#1), ∀ a, (k0_off24 v656) a + S1x1x128.size a ≤ S1x20000x128.size a)
theorem k0_off24_inb : ∀ (v300 : BitVec 1) (v656 : BitVec 32) (k0_hw23 : k0_chk23 v300 v656), ∀ (k0_h2 : k0_cond2 v300 = 1#1), ∀ a, (k0_off24 v656) a + S1x1x128.size a ≤ S1x20000x128.size a := fun v300 v656 k0_hw23 k0_h2 => k0_hw23 k0_h2

def k0_off25 (v670 : BitVec 32) : Fin 3 → Nat :=
  let c0_268 : Index := 0#32
  let v671 : Index := Scalar.indexCast v670
  let c0_269 : Index := 0#32
  ![0, v671.toNat, 0]

def k0_chk24 (v300 : BitVec 1) (v670 : BitVec 32) : Prop :=
  (∀ (k0_h2 : k0_cond2 v300 = 1#1), ∀ a, (k0_off25 v670) a + S1x1x128.size a ≤ S1x20000x128.size a)
theorem k0_off25_inb : ∀ (v300 : BitVec 1) (v670 : BitVec 32) (k0_hw24 : k0_chk24 v300 v670), ∀ (k0_h2 : k0_cond2 v300 = 1#1), ∀ a, (k0_off25 v670) a + S1x1x128.size a ≤ S1x20000x128.size a := fun v300 v670 k0_hw24 k0_h2 => k0_hw24 k0_h2

def k0_off26 (v684 : BitVec 32) : Fin 3 → Nat :=
  let c0_274 : Index := 0#32
  let v685 : Index := Scalar.indexCast v684
  let c0_275 : Index := 0#32
  ![0, v685.toNat, 0]

def k0_chk25 (v300 : BitVec 1) (v684 : BitVec 32) : Prop :=
  (∀ (k0_h2 : k0_cond2 v300 = 1#1), ∀ a, (k0_off26 v684) a + S1x1x128.size a ≤ S1x20000x128.size a)
theorem k0_off26_inb : ∀ (v300 : BitVec 1) (v684 : BitVec 32) (k0_hw25 : k0_chk25 v300 v684), ∀ (k0_h2 : k0_cond2 v300 = 1#1), ∀ a, (k0_off26 v684) a + S1x1x128.size a ≤ S1x20000x128.size a := fun v300 v684 k0_hw25 k0_h2 => k0_hw25 k0_h2

def k0_off27 (v698 : BitVec 32) : Fin 3 → Nat :=
  let c0_280 : Index := 0#32
  let v699 : Index := Scalar.indexCast v698
  let c0_281 : Index := 0#32
  ![0, v699.toNat, 0]

def k0_chk26 (v300 : BitVec 1) (v698 : BitVec 32) : Prop :=
  (∀ (k0_h2 : k0_cond2 v300 = 1#1), ∀ a, (k0_off27 v698) a + S1x1x128.size a ≤ S1x20000x128.size a)
theorem k0_off27_inb : ∀ (v300 : BitVec 1) (v698 : BitVec 32) (k0_hw26 : k0_chk26 v300 v698), ∀ (k0_h2 : k0_cond2 v300 = 1#1), ∀ a, (k0_off27 v698) a + S1x1x128.size a ≤ S1x20000x128.size a := fun v300 v698 k0_hw26 k0_h2 => k0_hw26 k0_h2

def k0_off28 (v730 : BitVec 32) : Fin 3 → Nat :=
  let c0_292 : Index := 0#32
  let v731 : Index := Scalar.indexCast v730
  let c0_293 : Index := 0#32
  ![0, v731.toNat, 0]

def k0_chk27 (v300 : BitVec 1) (v730 : BitVec 32) : Prop :=
  (∀ (k0_h2 : k0_cond2 v300 = 1#1), ∀ a, (k0_off28 v730) a + S1x1x128.size a ≤ S1x20000x128.size a)
theorem k0_off28_inb : ∀ (v300 : BitVec 1) (v730 : BitVec 32) (k0_hw27 : k0_chk27 v300 v730), ∀ (k0_h2 : k0_cond2 v300 = 1#1), ∀ a, (k0_off28 v730) a + S1x1x128.size a ≤ S1x20000x128.size a := fun v300 v730 k0_hw27 k0_h2 => k0_hw27 k0_h2

def k0_off29 (v744 : BitVec 32) : Fin 3 → Nat :=
  let c0_299 : Index := 0#32
  let v745 : Index := Scalar.indexCast v744
  let c0_300 : Index := 0#32
  ![0, v745.toNat, 0]

def k0_chk28 (v300 : BitVec 1) (v744 : BitVec 32) : Prop :=
  (∀ (k0_h2 : k0_cond2 v300 = 1#1), ∀ a, (k0_off29 v744) a + S1x1x128.size a ≤ S1x20000x128.size a)
theorem k0_off29_inb : ∀ (v300 : BitVec 1) (v744 : BitVec 32) (k0_hw28 : k0_chk28 v300 v744), ∀ (k0_h2 : k0_cond2 v300 = 1#1), ∀ a, (k0_off29 v744) a + S1x1x128.size a ≤ S1x20000x128.size a := fun v300 v744 k0_hw28 k0_h2 => k0_hw28 k0_h2

def k0_off30 (v758 : BitVec 32) : Fin 3 → Nat :=
  let c0_305 : Index := 0#32
  let v759 : Index := Scalar.indexCast v758
  let c0_306 : Index := 0#32
  ![0, v759.toNat, 0]

def k0_chk29 (v300 : BitVec 1) (v758 : BitVec 32) : Prop :=
  (∀ (k0_h2 : k0_cond2 v300 = 1#1), ∀ a, (k0_off30 v758) a + S1x1x128.size a ≤ S1x20000x128.size a)
theorem k0_off30_inb : ∀ (v300 : BitVec 1) (v758 : BitVec 32) (k0_hw29 : k0_chk29 v300 v758), ∀ (k0_h2 : k0_cond2 v300 = 1#1), ∀ a, (k0_off30 v758) a + S1x1x128.size a ≤ S1x20000x128.size a := fun v300 v758 k0_hw29 k0_h2 => k0_hw29 k0_h2

def k0_off31 (v772 : BitVec 32) : Fin 3 → Nat :=
  let c0_311 : Index := 0#32
  let v773 : Index := Scalar.indexCast v772
  let c0_312 : Index := 0#32
  ![0, v773.toNat, 0]

def k0_chk30 (v300 : BitVec 1) (v772 : BitVec 32) : Prop :=
  (∀ (k0_h2 : k0_cond2 v300 = 1#1), ∀ a, (k0_off31 v772) a + S1x1x128.size a ≤ S1x20000x128.size a)
theorem k0_off31_inb : ∀ (v300 : BitVec 1) (v772 : BitVec 32) (k0_hw30 : k0_chk30 v300 v772), ∀ (k0_h2 : k0_cond2 v300 = 1#1), ∀ a, (k0_off31 v772) a + S1x1x128.size a ≤ S1x20000x128.size a := fun v300 v772 k0_hw30 k0_h2 => k0_hw30 k0_h2

def k0_off32 (v786 : BitVec 32) : Fin 3 → Nat :=
  let c0_317 : Index := 0#32
  let v787 : Index := Scalar.indexCast v786
  let c0_318 : Index := 0#32
  ![0, v787.toNat, 0]

def k0_chk31 (v300 : BitVec 1) (v786 : BitVec 32) : Prop :=
  (∀ (k0_h2 : k0_cond2 v300 = 1#1), ∀ a, (k0_off32 v786) a + S1x1x128.size a ≤ S1x20000x128.size a)
theorem k0_off32_inb : ∀ (v300 : BitVec 1) (v786 : BitVec 32) (k0_hw31 : k0_chk31 v300 v786), ∀ (k0_h2 : k0_cond2 v300 = 1#1), ∀ a, (k0_off32 v786) a + S1x1x128.size a ≤ S1x20000x128.size a := fun v300 v786 k0_hw31 k0_h2 => k0_hw31 k0_h2

def k0_off33 (v800 : BitVec 32) : Fin 3 → Nat :=
  let c0_323 : Index := 0#32
  let v801 : Index := Scalar.indexCast v800
  let c0_324 : Index := 0#32
  ![0, v801.toNat, 0]

def k0_chk32 (v300 : BitVec 1) (v800 : BitVec 32) : Prop :=
  (∀ (k0_h2 : k0_cond2 v300 = 1#1), ∀ a, (k0_off33 v800) a + S1x1x128.size a ≤ S1x20000x128.size a)
theorem k0_off33_inb : ∀ (v300 : BitVec 1) (v800 : BitVec 32) (k0_hw32 : k0_chk32 v300 v800), ∀ (k0_h2 : k0_cond2 v300 = 1#1), ∀ a, (k0_off33 v800) a + S1x1x128.size a ≤ S1x20000x128.size a := fun v300 v800 k0_hw32 k0_h2 => k0_hw32 k0_h2

def k0_off34 (v814 : BitVec 32) : Fin 3 → Nat :=
  let c0_329 : Index := 0#32
  let v815 : Index := Scalar.indexCast v814
  let c0_330 : Index := 0#32
  ![0, v815.toNat, 0]

def k0_chk33 (v300 : BitVec 1) (v814 : BitVec 32) : Prop :=
  (∀ (k0_h2 : k0_cond2 v300 = 1#1), ∀ a, (k0_off34 v814) a + S1x1x128.size a ≤ S1x20000x128.size a)
theorem k0_off34_inb : ∀ (v300 : BitVec 1) (v814 : BitVec 32) (k0_hw33 : k0_chk33 v300 v814), ∀ (k0_h2 : k0_cond2 v300 = 1#1), ∀ a, (k0_off34 v814) a + S1x1x128.size a ≤ S1x20000x128.size a := fun v300 v814 k0_hw33 k0_h2 => k0_hw33 k0_h2

def k0_off35 (v828 : BitVec 32) : Fin 3 → Nat :=
  let c0_335 : Index := 0#32
  let v829 : Index := Scalar.indexCast v828
  let c0_336 : Index := 0#32
  ![0, v829.toNat, 0]

def k0_chk34 (v300 : BitVec 1) (v828 : BitVec 32) : Prop :=
  (∀ (k0_h2 : k0_cond2 v300 = 1#1), ∀ a, (k0_off35 v828) a + S1x1x128.size a ≤ S1x20000x128.size a)
theorem k0_off35_inb : ∀ (v300 : BitVec 1) (v828 : BitVec 32) (k0_hw34 : k0_chk34 v300 v828), ∀ (k0_h2 : k0_cond2 v300 = 1#1), ∀ a, (k0_off35 v828) a + S1x1x128.size a ≤ S1x20000x128.size a := fun v300 v828 k0_hw34 k0_h2 => k0_hw34 k0_h2

def k0_off36 (v860 : BitVec 32) : Fin 3 → Nat :=
  let c0_347 : Index := 0#32
  let v861 : Index := Scalar.indexCast v860
  let c0_348 : Index := 0#32
  ![0, v861.toNat, 0]

def k0_chk35 (v300 : BitVec 1) (v860 : BitVec 32) : Prop :=
  (∀ (k0_h2 : k0_cond2 v300 = 1#1), ∀ a, (k0_off36 v860) a + S1x1x128.size a ≤ S1x20000x128.size a)
theorem k0_off36_inb : ∀ (v300 : BitVec 1) (v860 : BitVec 32) (k0_hw35 : k0_chk35 v300 v860), ∀ (k0_h2 : k0_cond2 v300 = 1#1), ∀ a, (k0_off36 v860) a + S1x1x128.size a ≤ S1x20000x128.size a := fun v300 v860 k0_hw35 k0_h2 => k0_hw35 k0_h2

def k0_off37 (v874 : BitVec 32) : Fin 3 → Nat :=
  let c0_354 : Index := 0#32
  let v875 : Index := Scalar.indexCast v874
  let c0_355 : Index := 0#32
  ![0, v875.toNat, 0]

def k0_chk36 (v300 : BitVec 1) (v874 : BitVec 32) : Prop :=
  (∀ (k0_h2 : k0_cond2 v300 = 1#1), ∀ a, (k0_off37 v874) a + S1x1x128.size a ≤ S1x20000x128.size a)
theorem k0_off37_inb : ∀ (v300 : BitVec 1) (v874 : BitVec 32) (k0_hw36 : k0_chk36 v300 v874), ∀ (k0_h2 : k0_cond2 v300 = 1#1), ∀ a, (k0_off37 v874) a + S1x1x128.size a ≤ S1x20000x128.size a := fun v300 v874 k0_hw36 k0_h2 => k0_hw36 k0_h2

def k0_off38 (v888 : BitVec 32) : Fin 3 → Nat :=
  let c0_360 : Index := 0#32
  let v889 : Index := Scalar.indexCast v888
  let c0_361 : Index := 0#32
  ![0, v889.toNat, 0]

def k0_chk37 (v300 : BitVec 1) (v888 : BitVec 32) : Prop :=
  (∀ (k0_h2 : k0_cond2 v300 = 1#1), ∀ a, (k0_off38 v888) a + S1x1x128.size a ≤ S1x20000x128.size a)
theorem k0_off38_inb : ∀ (v300 : BitVec 1) (v888 : BitVec 32) (k0_hw37 : k0_chk37 v300 v888), ∀ (k0_h2 : k0_cond2 v300 = 1#1), ∀ a, (k0_off38 v888) a + S1x1x128.size a ≤ S1x20000x128.size a := fun v300 v888 k0_hw37 k0_h2 => k0_hw37 k0_h2

def k0_off39 (v902 : BitVec 32) : Fin 3 → Nat :=
  let c0_366 : Index := 0#32
  let v903 : Index := Scalar.indexCast v902
  let c0_367 : Index := 0#32
  ![0, v903.toNat, 0]

def k0_chk38 (v300 : BitVec 1) (v902 : BitVec 32) : Prop :=
  (∀ (k0_h2 : k0_cond2 v300 = 1#1), ∀ a, (k0_off39 v902) a + S1x1x128.size a ≤ S1x20000x128.size a)
theorem k0_off39_inb : ∀ (v300 : BitVec 1) (v902 : BitVec 32) (k0_hw38 : k0_chk38 v300 v902), ∀ (k0_h2 : k0_cond2 v300 = 1#1), ∀ a, (k0_off39 v902) a + S1x1x128.size a ≤ S1x20000x128.size a := fun v300 v902 k0_hw38 k0_h2 => k0_hw38 k0_h2

def k0_off40 (v916 : BitVec 32) : Fin 3 → Nat :=
  let c0_372 : Index := 0#32
  let v917 : Index := Scalar.indexCast v916
  let c0_373 : Index := 0#32
  ![0, v917.toNat, 0]

def k0_chk39 (v300 : BitVec 1) (v916 : BitVec 32) : Prop :=
  (∀ (k0_h2 : k0_cond2 v300 = 1#1), ∀ a, (k0_off40 v916) a + S1x1x128.size a ≤ S1x20000x128.size a)
theorem k0_off40_inb : ∀ (v300 : BitVec 1) (v916 : BitVec 32) (k0_hw39 : k0_chk39 v300 v916), ∀ (k0_h2 : k0_cond2 v300 = 1#1), ∀ a, (k0_off40 v916) a + S1x1x128.size a ≤ S1x20000x128.size a := fun v300 v916 k0_hw39 k0_h2 => k0_hw39 k0_h2

def k0_off41 (v930 : BitVec 32) : Fin 3 → Nat :=
  let c0_378 : Index := 0#32
  let v931 : Index := Scalar.indexCast v930
  let c0_379 : Index := 0#32
  ![0, v931.toNat, 0]

def k0_chk40 (v300 : BitVec 1) (v930 : BitVec 32) : Prop :=
  (∀ (k0_h2 : k0_cond2 v300 = 1#1), ∀ a, (k0_off41 v930) a + S1x1x128.size a ≤ S1x20000x128.size a)
theorem k0_off41_inb : ∀ (v300 : BitVec 1) (v930 : BitVec 32) (k0_hw40 : k0_chk40 v300 v930), ∀ (k0_h2 : k0_cond2 v300 = 1#1), ∀ a, (k0_off41 v930) a + S1x1x128.size a ≤ S1x20000x128.size a := fun v300 v930 k0_hw40 k0_h2 => k0_hw40 k0_h2

def k0_off42 (v944 : BitVec 32) : Fin 3 → Nat :=
  let c0_384 : Index := 0#32
  let v945 : Index := Scalar.indexCast v944
  let c0_385 : Index := 0#32
  ![0, v945.toNat, 0]

def k0_chk41 (v300 : BitVec 1) (v944 : BitVec 32) : Prop :=
  (∀ (k0_h2 : k0_cond2 v300 = 1#1), ∀ a, (k0_off42 v944) a + S1x1x128.size a ≤ S1x20000x128.size a)
theorem k0_off42_inb : ∀ (v300 : BitVec 1) (v944 : BitVec 32) (k0_hw41 : k0_chk41 v300 v944), ∀ (k0_h2 : k0_cond2 v300 = 1#1), ∀ a, (k0_off42 v944) a + S1x1x128.size a ≤ S1x20000x128.size a := fun v300 v944 k0_hw41 k0_h2 => k0_hw41 k0_h2

def k0_off43 (v958 : BitVec 32) : Fin 3 → Nat :=
  let c0_390 : Index := 0#32
  let v959 : Index := Scalar.indexCast v958
  let c0_391 : Index := 0#32
  ![0, v959.toNat, 0]

def k0_chk42 (v300 : BitVec 1) (v958 : BitVec 32) : Prop :=
  (∀ (k0_h2 : k0_cond2 v300 = 1#1), ∀ a, (k0_off43 v958) a + S1x1x128.size a ≤ S1x20000x128.size a)
theorem k0_off43_inb : ∀ (v300 : BitVec 1) (v958 : BitVec 32) (k0_hw42 : k0_chk42 v300 v958), ∀ (k0_h2 : k0_cond2 v300 = 1#1), ∀ a, (k0_off43 v958) a + S1x1x128.size a ≤ S1x20000x128.size a := fun v300 v958 k0_hw42 k0_h2 => k0_hw42 k0_h2

def k0_off44 (v990 : BitVec 32) : Fin 3 → Nat :=
  let c0_402 : Index := 0#32
  let v991 : Index := Scalar.indexCast v990
  let c0_403 : Index := 0#32
  ![0, v991.toNat, 0]

def k0_chk43 (v300 : BitVec 1) (v990 : BitVec 32) : Prop :=
  (∀ (k0_h2 : k0_cond2 v300 = 1#1), ∀ a, (k0_off44 v990) a + S1x1x128.size a ≤ S1x20000x128.size a)
theorem k0_off44_inb : ∀ (v300 : BitVec 1) (v990 : BitVec 32) (k0_hw43 : k0_chk43 v300 v990), ∀ (k0_h2 : k0_cond2 v300 = 1#1), ∀ a, (k0_off44 v990) a + S1x1x128.size a ≤ S1x20000x128.size a := fun v300 v990 k0_hw43 k0_h2 => k0_hw43 k0_h2

def k0_off45 (v1004 : BitVec 32) : Fin 3 → Nat :=
  let c0_409 : Index := 0#32
  let v1005 : Index := Scalar.indexCast v1004
  let c0_410 : Index := 0#32
  ![0, v1005.toNat, 0]

def k0_chk44 (v300 : BitVec 1) (v1004 : BitVec 32) : Prop :=
  (∀ (k0_h2 : k0_cond2 v300 = 1#1), ∀ a, (k0_off45 v1004) a + S1x1x128.size a ≤ S1x20000x128.size a)
theorem k0_off45_inb : ∀ (v300 : BitVec 1) (v1004 : BitVec 32) (k0_hw44 : k0_chk44 v300 v1004), ∀ (k0_h2 : k0_cond2 v300 = 1#1), ∀ a, (k0_off45 v1004) a + S1x1x128.size a ≤ S1x20000x128.size a := fun v300 v1004 k0_hw44 k0_h2 => k0_hw44 k0_h2

def k0_off46 (v1018 : BitVec 32) : Fin 3 → Nat :=
  let c0_415 : Index := 0#32
  let v1019 : Index := Scalar.indexCast v1018
  let c0_416 : Index := 0#32
  ![0, v1019.toNat, 0]

def k0_chk45 (v300 : BitVec 1) (v1018 : BitVec 32) : Prop :=
  (∀ (k0_h2 : k0_cond2 v300 = 1#1), ∀ a, (k0_off46 v1018) a + S1x1x128.size a ≤ S1x20000x128.size a)
theorem k0_off46_inb : ∀ (v300 : BitVec 1) (v1018 : BitVec 32) (k0_hw45 : k0_chk45 v300 v1018), ∀ (k0_h2 : k0_cond2 v300 = 1#1), ∀ a, (k0_off46 v1018) a + S1x1x128.size a ≤ S1x20000x128.size a := fun v300 v1018 k0_hw45 k0_h2 => k0_hw45 k0_h2

def k0_off47 (v1032 : BitVec 32) : Fin 3 → Nat :=
  let c0_421 : Index := 0#32
  let v1033 : Index := Scalar.indexCast v1032
  let c0_422 : Index := 0#32
  ![0, v1033.toNat, 0]

def k0_chk46 (v300 : BitVec 1) (v1032 : BitVec 32) : Prop :=
  (∀ (k0_h2 : k0_cond2 v300 = 1#1), ∀ a, (k0_off47 v1032) a + S1x1x128.size a ≤ S1x20000x128.size a)
theorem k0_off47_inb : ∀ (v300 : BitVec 1) (v1032 : BitVec 32) (k0_hw46 : k0_chk46 v300 v1032), ∀ (k0_h2 : k0_cond2 v300 = 1#1), ∀ a, (k0_off47 v1032) a + S1x1x128.size a ≤ S1x20000x128.size a := fun v300 v1032 k0_hw46 k0_h2 => k0_hw46 k0_h2

def k0_off48 (v1046 : BitVec 32) : Fin 3 → Nat :=
  let c0_427 : Index := 0#32
  let v1047 : Index := Scalar.indexCast v1046
  let c0_428 : Index := 0#32
  ![0, v1047.toNat, 0]

def k0_chk47 (v300 : BitVec 1) (v1046 : BitVec 32) : Prop :=
  (∀ (k0_h2 : k0_cond2 v300 = 1#1), ∀ a, (k0_off48 v1046) a + S1x1x128.size a ≤ S1x20000x128.size a)
theorem k0_off48_inb : ∀ (v300 : BitVec 1) (v1046 : BitVec 32) (k0_hw47 : k0_chk47 v300 v1046), ∀ (k0_h2 : k0_cond2 v300 = 1#1), ∀ a, (k0_off48 v1046) a + S1x1x128.size a ≤ S1x20000x128.size a := fun v300 v1046 k0_hw47 k0_h2 => k0_hw47 k0_h2

def k0_off49 (v1060 : BitVec 32) : Fin 3 → Nat :=
  let c0_433 : Index := 0#32
  let v1061 : Index := Scalar.indexCast v1060
  let c0_434 : Index := 0#32
  ![0, v1061.toNat, 0]

def k0_chk48 (v300 : BitVec 1) (v1060 : BitVec 32) : Prop :=
  (∀ (k0_h2 : k0_cond2 v300 = 1#1), ∀ a, (k0_off49 v1060) a + S1x1x128.size a ≤ S1x20000x128.size a)
theorem k0_off49_inb : ∀ (v300 : BitVec 1) (v1060 : BitVec 32) (k0_hw48 : k0_chk48 v300 v1060), ∀ (k0_h2 : k0_cond2 v300 = 1#1), ∀ a, (k0_off49 v1060) a + S1x1x128.size a ≤ S1x20000x128.size a := fun v300 v1060 k0_hw48 k0_h2 => k0_hw48 k0_h2

def k0_off50 (v1074 : BitVec 32) : Fin 3 → Nat :=
  let c0_439 : Index := 0#32
  let v1075 : Index := Scalar.indexCast v1074
  let c0_440 : Index := 0#32
  ![0, v1075.toNat, 0]

def k0_chk49 (v300 : BitVec 1) (v1074 : BitVec 32) : Prop :=
  (∀ (k0_h2 : k0_cond2 v300 = 1#1), ∀ a, (k0_off50 v1074) a + S1x1x128.size a ≤ S1x20000x128.size a)
theorem k0_off50_inb : ∀ (v300 : BitVec 1) (v1074 : BitVec 32) (k0_hw49 : k0_chk49 v300 v1074), ∀ (k0_h2 : k0_cond2 v300 = 1#1), ∀ a, (k0_off50 v1074) a + S1x1x128.size a ≤ S1x20000x128.size a := fun v300 v1074 k0_hw49 k0_h2 => k0_hw49 k0_h2

def k0_off51 (v1088 : BitVec 32) : Fin 3 → Nat :=
  let c0_445 : Index := 0#32
  let v1089 : Index := Scalar.indexCast v1088
  let c0_446 : Index := 0#32
  ![0, v1089.toNat, 0]

def k0_chk50 (v300 : BitVec 1) (v1088 : BitVec 32) : Prop :=
  (∀ (k0_h2 : k0_cond2 v300 = 1#1), ∀ a, (k0_off51 v1088) a + S1x1x128.size a ≤ S1x20000x128.size a)
theorem k0_off51_inb : ∀ (v300 : BitVec 1) (v1088 : BitVec 32) (k0_hw50 : k0_chk50 v300 v1088), ∀ (k0_h2 : k0_cond2 v300 = 1#1), ∀ a, (k0_off51 v1088) a + S1x1x128.size a ≤ S1x20000x128.size a := fun v300 v1088 k0_hw50 k0_h2 => k0_hw50 k0_h2

def k0_off52 (v1120 : BitVec 32) : Fin 3 → Nat :=
  let c0_457 : Index := 0#32
  let v1121 : Index := Scalar.indexCast v1120
  let c0_458 : Index := 0#32
  ![0, v1121.toNat, 0]

def k0_chk51 (v300 : BitVec 1) (v1120 : BitVec 32) : Prop :=
  (∀ (k0_h2 : k0_cond2 v300 = 1#1), ∀ a, (k0_off52 v1120) a + S1x1x128.size a ≤ S1x20000x128.size a)
theorem k0_off52_inb : ∀ (v300 : BitVec 1) (v1120 : BitVec 32) (k0_hw51 : k0_chk51 v300 v1120), ∀ (k0_h2 : k0_cond2 v300 = 1#1), ∀ a, (k0_off52 v1120) a + S1x1x128.size a ≤ S1x20000x128.size a := fun v300 v1120 k0_hw51 k0_h2 => k0_hw51 k0_h2

def k0_off53 (v1134 : BitVec 32) : Fin 3 → Nat :=
  let c0_464 : Index := 0#32
  let v1135 : Index := Scalar.indexCast v1134
  let c0_465 : Index := 0#32
  ![0, v1135.toNat, 0]

def k0_chk52 (v300 : BitVec 1) (v1134 : BitVec 32) : Prop :=
  (∀ (k0_h2 : k0_cond2 v300 = 1#1), ∀ a, (k0_off53 v1134) a + S1x1x128.size a ≤ S1x20000x128.size a)
theorem k0_off53_inb : ∀ (v300 : BitVec 1) (v1134 : BitVec 32) (k0_hw52 : k0_chk52 v300 v1134), ∀ (k0_h2 : k0_cond2 v300 = 1#1), ∀ a, (k0_off53 v1134) a + S1x1x128.size a ≤ S1x20000x128.size a := fun v300 v1134 k0_hw52 k0_h2 => k0_hw52 k0_h2

def k0_off54 (v1148 : BitVec 32) : Fin 3 → Nat :=
  let c0_470 : Index := 0#32
  let v1149 : Index := Scalar.indexCast v1148
  let c0_471 : Index := 0#32
  ![0, v1149.toNat, 0]

def k0_chk53 (v300 : BitVec 1) (v1148 : BitVec 32) : Prop :=
  (∀ (k0_h2 : k0_cond2 v300 = 1#1), ∀ a, (k0_off54 v1148) a + S1x1x128.size a ≤ S1x20000x128.size a)
theorem k0_off54_inb : ∀ (v300 : BitVec 1) (v1148 : BitVec 32) (k0_hw53 : k0_chk53 v300 v1148), ∀ (k0_h2 : k0_cond2 v300 = 1#1), ∀ a, (k0_off54 v1148) a + S1x1x128.size a ≤ S1x20000x128.size a := fun v300 v1148 k0_hw53 k0_h2 => k0_hw53 k0_h2

def k0_off55 (v1162 : BitVec 32) : Fin 3 → Nat :=
  let c0_476 : Index := 0#32
  let v1163 : Index := Scalar.indexCast v1162
  let c0_477 : Index := 0#32
  ![0, v1163.toNat, 0]

def k0_chk54 (v300 : BitVec 1) (v1162 : BitVec 32) : Prop :=
  (∀ (k0_h2 : k0_cond2 v300 = 1#1), ∀ a, (k0_off55 v1162) a + S1x1x128.size a ≤ S1x20000x128.size a)
theorem k0_off55_inb : ∀ (v300 : BitVec 1) (v1162 : BitVec 32) (k0_hw54 : k0_chk54 v300 v1162), ∀ (k0_h2 : k0_cond2 v300 = 1#1), ∀ a, (k0_off55 v1162) a + S1x1x128.size a ≤ S1x20000x128.size a := fun v300 v1162 k0_hw54 k0_h2 => k0_hw54 k0_h2

def k0_off56 (v1176 : BitVec 32) : Fin 3 → Nat :=
  let c0_482 : Index := 0#32
  let v1177 : Index := Scalar.indexCast v1176
  let c0_483 : Index := 0#32
  ![0, v1177.toNat, 0]

def k0_chk55 (v300 : BitVec 1) (v1176 : BitVec 32) : Prop :=
  (∀ (k0_h2 : k0_cond2 v300 = 1#1), ∀ a, (k0_off56 v1176) a + S1x1x128.size a ≤ S1x20000x128.size a)
theorem k0_off56_inb : ∀ (v300 : BitVec 1) (v1176 : BitVec 32) (k0_hw55 : k0_chk55 v300 v1176), ∀ (k0_h2 : k0_cond2 v300 = 1#1), ∀ a, (k0_off56 v1176) a + S1x1x128.size a ≤ S1x20000x128.size a := fun v300 v1176 k0_hw55 k0_h2 => k0_hw55 k0_h2

def k0_off57 (v1190 : BitVec 32) : Fin 3 → Nat :=
  let c0_488 : Index := 0#32
  let v1191 : Index := Scalar.indexCast v1190
  let c0_489 : Index := 0#32
  ![0, v1191.toNat, 0]

def k0_chk56 (v300 : BitVec 1) (v1190 : BitVec 32) : Prop :=
  (∀ (k0_h2 : k0_cond2 v300 = 1#1), ∀ a, (k0_off57 v1190) a + S1x1x128.size a ≤ S1x20000x128.size a)
theorem k0_off57_inb : ∀ (v300 : BitVec 1) (v1190 : BitVec 32) (k0_hw56 : k0_chk56 v300 v1190), ∀ (k0_h2 : k0_cond2 v300 = 1#1), ∀ a, (k0_off57 v1190) a + S1x1x128.size a ≤ S1x20000x128.size a := fun v300 v1190 k0_hw56 k0_h2 => k0_hw56 k0_h2

def k0_off58 (v1204 : BitVec 32) : Fin 3 → Nat :=
  let c0_494 : Index := 0#32
  let v1205 : Index := Scalar.indexCast v1204
  let c0_495 : Index := 0#32
  ![0, v1205.toNat, 0]

def k0_chk57 (v300 : BitVec 1) (v1204 : BitVec 32) : Prop :=
  (∀ (k0_h2 : k0_cond2 v300 = 1#1), ∀ a, (k0_off58 v1204) a + S1x1x128.size a ≤ S1x20000x128.size a)
theorem k0_off58_inb : ∀ (v300 : BitVec 1) (v1204 : BitVec 32) (k0_hw57 : k0_chk57 v300 v1204), ∀ (k0_h2 : k0_cond2 v300 = 1#1), ∀ a, (k0_off58 v1204) a + S1x1x128.size a ≤ S1x20000x128.size a := fun v300 v1204 k0_hw57 k0_h2 => k0_hw57 k0_h2

def k0_off59 (v1218 : BitVec 32) : Fin 3 → Nat :=
  let c0_500 : Index := 0#32
  let v1219 : Index := Scalar.indexCast v1218
  let c0_501 : Index := 0#32
  ![0, v1219.toNat, 0]

def k0_chk58 (v300 : BitVec 1) (v1218 : BitVec 32) : Prop :=
  (∀ (k0_h2 : k0_cond2 v300 = 1#1), ∀ a, (k0_off59 v1218) a + S1x1x128.size a ≤ S1x20000x128.size a)
theorem k0_off59_inb : ∀ (v300 : BitVec 1) (v1218 : BitVec 32) (k0_hw58 : k0_chk58 v300 v1218), ∀ (k0_h2 : k0_cond2 v300 = 1#1), ∀ a, (k0_off59 v1218) a + S1x1x128.size a ≤ S1x20000x128.size a := fun v300 v1218 k0_hw58 k0_h2 => k0_hw58 k0_h2

def k0_off60 (v1250 : BitVec 32) : Fin 3 → Nat :=
  let c0_512 : Index := 0#32
  let v1251 : Index := Scalar.indexCast v1250
  let c0_513 : Index := 0#32
  ![0, v1251.toNat, 0]

def k0_chk59 (v300 : BitVec 1) (v1250 : BitVec 32) : Prop :=
  (∀ (k0_h2 : k0_cond2 v300 = 1#1), ∀ a, (k0_off60 v1250) a + S1x1x128.size a ≤ S1x20000x128.size a)
theorem k0_off60_inb : ∀ (v300 : BitVec 1) (v1250 : BitVec 32) (k0_hw59 : k0_chk59 v300 v1250), ∀ (k0_h2 : k0_cond2 v300 = 1#1), ∀ a, (k0_off60 v1250) a + S1x1x128.size a ≤ S1x20000x128.size a := fun v300 v1250 k0_hw59 k0_h2 => k0_hw59 k0_h2

def k0_off61 (v1264 : BitVec 32) : Fin 3 → Nat :=
  let c0_519 : Index := 0#32
  let v1265 : Index := Scalar.indexCast v1264
  let c0_520 : Index := 0#32
  ![0, v1265.toNat, 0]

def k0_chk60 (v300 : BitVec 1) (v1264 : BitVec 32) : Prop :=
  (∀ (k0_h2 : k0_cond2 v300 = 1#1), ∀ a, (k0_off61 v1264) a + S1x1x128.size a ≤ S1x20000x128.size a)
theorem k0_off61_inb : ∀ (v300 : BitVec 1) (v1264 : BitVec 32) (k0_hw60 : k0_chk60 v300 v1264), ∀ (k0_h2 : k0_cond2 v300 = 1#1), ∀ a, (k0_off61 v1264) a + S1x1x128.size a ≤ S1x20000x128.size a := fun v300 v1264 k0_hw60 k0_h2 => k0_hw60 k0_h2

def k0_off62 (v1278 : BitVec 32) : Fin 3 → Nat :=
  let c0_525 : Index := 0#32
  let v1279 : Index := Scalar.indexCast v1278
  let c0_526 : Index := 0#32
  ![0, v1279.toNat, 0]

def k0_chk61 (v300 : BitVec 1) (v1278 : BitVec 32) : Prop :=
  (∀ (k0_h2 : k0_cond2 v300 = 1#1), ∀ a, (k0_off62 v1278) a + S1x1x128.size a ≤ S1x20000x128.size a)
theorem k0_off62_inb : ∀ (v300 : BitVec 1) (v1278 : BitVec 32) (k0_hw61 : k0_chk61 v300 v1278), ∀ (k0_h2 : k0_cond2 v300 = 1#1), ∀ a, (k0_off62 v1278) a + S1x1x128.size a ≤ S1x20000x128.size a := fun v300 v1278 k0_hw61 k0_h2 => k0_hw61 k0_h2

def k0_off63 (v1292 : BitVec 32) : Fin 3 → Nat :=
  let c0_531 : Index := 0#32
  let v1293 : Index := Scalar.indexCast v1292
  let c0_532 : Index := 0#32
  ![0, v1293.toNat, 0]

def k0_chk62 (v300 : BitVec 1) (v1292 : BitVec 32) : Prop :=
  (∀ (k0_h2 : k0_cond2 v300 = 1#1), ∀ a, (k0_off63 v1292) a + S1x1x128.size a ≤ S1x20000x128.size a)
theorem k0_off63_inb : ∀ (v300 : BitVec 1) (v1292 : BitVec 32) (k0_hw62 : k0_chk62 v300 v1292), ∀ (k0_h2 : k0_cond2 v300 = 1#1), ∀ a, (k0_off63 v1292) a + S1x1x128.size a ≤ S1x20000x128.size a := fun v300 v1292 k0_hw62 k0_h2 => k0_hw62 k0_h2

def k0_off64 (v1306 : BitVec 32) : Fin 3 → Nat :=
  let c0_537 : Index := 0#32
  let v1307 : Index := Scalar.indexCast v1306
  let c0_538 : Index := 0#32
  ![0, v1307.toNat, 0]

def k0_chk63 (v300 : BitVec 1) (v1306 : BitVec 32) : Prop :=
  (∀ (k0_h2 : k0_cond2 v300 = 1#1), ∀ a, (k0_off64 v1306) a + S1x1x128.size a ≤ S1x20000x128.size a)
theorem k0_off64_inb : ∀ (v300 : BitVec 1) (v1306 : BitVec 32) (k0_hw63 : k0_chk63 v300 v1306), ∀ (k0_h2 : k0_cond2 v300 = 1#1), ∀ a, (k0_off64 v1306) a + S1x1x128.size a ≤ S1x20000x128.size a := fun v300 v1306 k0_hw63 k0_h2 => k0_hw63 k0_h2

def k0_off65 (v1320 : BitVec 32) : Fin 3 → Nat :=
  let c0_543 : Index := 0#32
  let v1321 : Index := Scalar.indexCast v1320
  let c0_544 : Index := 0#32
  ![0, v1321.toNat, 0]

def k0_chk64 (v300 : BitVec 1) (v1320 : BitVec 32) : Prop :=
  (∀ (k0_h2 : k0_cond2 v300 = 1#1), ∀ a, (k0_off65 v1320) a + S1x1x128.size a ≤ S1x20000x128.size a)
theorem k0_off65_inb : ∀ (v300 : BitVec 1) (v1320 : BitVec 32) (k0_hw64 : k0_chk64 v300 v1320), ∀ (k0_h2 : k0_cond2 v300 = 1#1), ∀ a, (k0_off65 v1320) a + S1x1x128.size a ≤ S1x20000x128.size a := fun v300 v1320 k0_hw64 k0_h2 => k0_hw64 k0_h2

def k0_off66 (v1334 : BitVec 32) : Fin 3 → Nat :=
  let c0_549 : Index := 0#32
  let v1335 : Index := Scalar.indexCast v1334
  let c0_550 : Index := 0#32
  ![0, v1335.toNat, 0]

def k0_chk65 (v300 : BitVec 1) (v1334 : BitVec 32) : Prop :=
  (∀ (k0_h2 : k0_cond2 v300 = 1#1), ∀ a, (k0_off66 v1334) a + S1x1x128.size a ≤ S1x20000x128.size a)
theorem k0_off66_inb : ∀ (v300 : BitVec 1) (v1334 : BitVec 32) (k0_hw65 : k0_chk65 v300 v1334), ∀ (k0_h2 : k0_cond2 v300 = 1#1), ∀ a, (k0_off66 v1334) a + S1x1x128.size a ≤ S1x20000x128.size a := fun v300 v1334 k0_hw65 k0_h2 => k0_hw65 k0_h2

def k0_off67 (v1348 : BitVec 32) : Fin 3 → Nat :=
  let c0_555 : Index := 0#32
  let v1349 : Index := Scalar.indexCast v1348
  let c0_556 : Index := 0#32
  ![0, v1349.toNat, 0]

def k0_chk66 (v300 : BitVec 1) (v1348 : BitVec 32) : Prop :=
  (∀ (k0_h2 : k0_cond2 v300 = 1#1), ∀ a, (k0_off67 v1348) a + S1x1x128.size a ≤ S1x20000x128.size a)
theorem k0_off67_inb : ∀ (v300 : BitVec 1) (v1348 : BitVec 32) (k0_hw66 : k0_chk66 v300 v1348), ∀ (k0_h2 : k0_cond2 v300 = 1#1), ∀ a, (k0_off67 v1348) a + S1x1x128.size a ≤ S1x20000x128.size a := fun v300 v1348 k0_hw66 k0_h2 => k0_hw66 k0_h2

def k0_off68 (v1380 : BitVec 32) : Fin 3 → Nat :=
  let c0_567 : Index := 0#32
  let v1381 : Index := Scalar.indexCast v1380
  let c0_568 : Index := 0#32
  ![0, v1381.toNat, 0]

def k0_chk67 (v300 : BitVec 1) (v1380 : BitVec 32) : Prop :=
  (∀ (k0_h2 : k0_cond2 v300 = 1#1), ∀ a, (k0_off68 v1380) a + S1x1x128.size a ≤ S1x20000x128.size a)
theorem k0_off68_inb : ∀ (v300 : BitVec 1) (v1380 : BitVec 32) (k0_hw67 : k0_chk67 v300 v1380), ∀ (k0_h2 : k0_cond2 v300 = 1#1), ∀ a, (k0_off68 v1380) a + S1x1x128.size a ≤ S1x20000x128.size a := fun v300 v1380 k0_hw67 k0_h2 => k0_hw67 k0_h2

def k0_off69 (v1394 : BitVec 32) : Fin 3 → Nat :=
  let c0_574 : Index := 0#32
  let v1395 : Index := Scalar.indexCast v1394
  let c0_575 : Index := 0#32
  ![0, v1395.toNat, 0]

def k0_chk68 (v300 : BitVec 1) (v1394 : BitVec 32) : Prop :=
  (∀ (k0_h2 : k0_cond2 v300 = 1#1), ∀ a, (k0_off69 v1394) a + S1x1x128.size a ≤ S1x20000x128.size a)
theorem k0_off69_inb : ∀ (v300 : BitVec 1) (v1394 : BitVec 32) (k0_hw68 : k0_chk68 v300 v1394), ∀ (k0_h2 : k0_cond2 v300 = 1#1), ∀ a, (k0_off69 v1394) a + S1x1x128.size a ≤ S1x20000x128.size a := fun v300 v1394 k0_hw68 k0_h2 => k0_hw68 k0_h2

def k0_off70 (v1408 : BitVec 32) : Fin 3 → Nat :=
  let c0_580 : Index := 0#32
  let v1409 : Index := Scalar.indexCast v1408
  let c0_581 : Index := 0#32
  ![0, v1409.toNat, 0]

def k0_chk69 (v300 : BitVec 1) (v1408 : BitVec 32) : Prop :=
  (∀ (k0_h2 : k0_cond2 v300 = 1#1), ∀ a, (k0_off70 v1408) a + S1x1x128.size a ≤ S1x20000x128.size a)
theorem k0_off70_inb : ∀ (v300 : BitVec 1) (v1408 : BitVec 32) (k0_hw69 : k0_chk69 v300 v1408), ∀ (k0_h2 : k0_cond2 v300 = 1#1), ∀ a, (k0_off70 v1408) a + S1x1x128.size a ≤ S1x20000x128.size a := fun v300 v1408 k0_hw69 k0_h2 => k0_hw69 k0_h2

def k0_off71 (v1422 : BitVec 32) : Fin 3 → Nat :=
  let c0_586 : Index := 0#32
  let v1423 : Index := Scalar.indexCast v1422
  let c0_587 : Index := 0#32
  ![0, v1423.toNat, 0]

def k0_chk70 (v300 : BitVec 1) (v1422 : BitVec 32) : Prop :=
  (∀ (k0_h2 : k0_cond2 v300 = 1#1), ∀ a, (k0_off71 v1422) a + S1x1x128.size a ≤ S1x20000x128.size a)
theorem k0_off71_inb : ∀ (v300 : BitVec 1) (v1422 : BitVec 32) (k0_hw70 : k0_chk70 v300 v1422), ∀ (k0_h2 : k0_cond2 v300 = 1#1), ∀ a, (k0_off71 v1422) a + S1x1x128.size a ≤ S1x20000x128.size a := fun v300 v1422 k0_hw70 k0_h2 => k0_hw70 k0_h2

def k0_off72 (v1436 : BitVec 32) : Fin 3 → Nat :=
  let c0_592 : Index := 0#32
  let v1437 : Index := Scalar.indexCast v1436
  let c0_593 : Index := 0#32
  ![0, v1437.toNat, 0]

def k0_chk71 (v300 : BitVec 1) (v1436 : BitVec 32) : Prop :=
  (∀ (k0_h2 : k0_cond2 v300 = 1#1), ∀ a, (k0_off72 v1436) a + S1x1x128.size a ≤ S1x20000x128.size a)
theorem k0_off72_inb : ∀ (v300 : BitVec 1) (v1436 : BitVec 32) (k0_hw71 : k0_chk71 v300 v1436), ∀ (k0_h2 : k0_cond2 v300 = 1#1), ∀ a, (k0_off72 v1436) a + S1x1x128.size a ≤ S1x20000x128.size a := fun v300 v1436 k0_hw71 k0_h2 => k0_hw71 k0_h2

def k0_off73 (v1450 : BitVec 32) : Fin 3 → Nat :=
  let c0_598 : Index := 0#32
  let v1451 : Index := Scalar.indexCast v1450
  let c0_599 : Index := 0#32
  ![0, v1451.toNat, 0]

def k0_chk72 (v300 : BitVec 1) (v1450 : BitVec 32) : Prop :=
  (∀ (k0_h2 : k0_cond2 v300 = 1#1), ∀ a, (k0_off73 v1450) a + S1x1x128.size a ≤ S1x20000x128.size a)
theorem k0_off73_inb : ∀ (v300 : BitVec 1) (v1450 : BitVec 32) (k0_hw72 : k0_chk72 v300 v1450), ∀ (k0_h2 : k0_cond2 v300 = 1#1), ∀ a, (k0_off73 v1450) a + S1x1x128.size a ≤ S1x20000x128.size a := fun v300 v1450 k0_hw72 k0_h2 => k0_hw72 k0_h2

def k0_off74 (v1464 : BitVec 32) : Fin 3 → Nat :=
  let c0_604 : Index := 0#32
  let v1465 : Index := Scalar.indexCast v1464
  let c0_605 : Index := 0#32
  ![0, v1465.toNat, 0]

def k0_chk73 (v300 : BitVec 1) (v1464 : BitVec 32) : Prop :=
  (∀ (k0_h2 : k0_cond2 v300 = 1#1), ∀ a, (k0_off74 v1464) a + S1x1x128.size a ≤ S1x20000x128.size a)
theorem k0_off74_inb : ∀ (v300 : BitVec 1) (v1464 : BitVec 32) (k0_hw73 : k0_chk73 v300 v1464), ∀ (k0_h2 : k0_cond2 v300 = 1#1), ∀ a, (k0_off74 v1464) a + S1x1x128.size a ≤ S1x20000x128.size a := fun v300 v1464 k0_hw73 k0_h2 => k0_hw73 k0_h2

def k0_off75 (v1478 : BitVec 32) : Fin 3 → Nat :=
  let c0_610 : Index := 0#32
  let v1479 : Index := Scalar.indexCast v1478
  let c0_611 : Index := 0#32
  ![0, v1479.toNat, 0]

def k0_chk74 (v300 : BitVec 1) (v1478 : BitVec 32) : Prop :=
  (∀ (k0_h2 : k0_cond2 v300 = 1#1), ∀ a, (k0_off75 v1478) a + S1x1x128.size a ≤ S1x20000x128.size a)
theorem k0_off75_inb : ∀ (v300 : BitVec 1) (v1478 : BitVec 32) (k0_hw74 : k0_chk74 v300 v1478), ∀ (k0_h2 : k0_cond2 v300 = 1#1), ∀ a, (k0_off75 v1478) a + S1x1x128.size a ≤ S1x20000x128.size a := fun v300 v1478 k0_hw74 k0_h2 => k0_hw74 k0_h2

def k0_off76 (v1510 : BitVec 32) : Fin 3 → Nat :=
  let c0_622 : Index := 0#32
  let v1511 : Index := Scalar.indexCast v1510
  let c0_623 : Index := 0#32
  ![0, v1511.toNat, 0]

def k0_chk75 (v300 : BitVec 1) (v1510 : BitVec 32) : Prop :=
  (∀ (k0_h2 : k0_cond2 v300 = 1#1), ∀ a, (k0_off76 v1510) a + S1x1x128.size a ≤ S1x20000x128.size a)
theorem k0_off76_inb : ∀ (v300 : BitVec 1) (v1510 : BitVec 32) (k0_hw75 : k0_chk75 v300 v1510), ∀ (k0_h2 : k0_cond2 v300 = 1#1), ∀ a, (k0_off76 v1510) a + S1x1x128.size a ≤ S1x20000x128.size a := fun v300 v1510 k0_hw75 k0_h2 => k0_hw75 k0_h2

def k0_off77 (v1524 : BitVec 32) : Fin 3 → Nat :=
  let c0_629 : Index := 0#32
  let v1525 : Index := Scalar.indexCast v1524
  let c0_630 : Index := 0#32
  ![0, v1525.toNat, 0]

def k0_chk76 (v300 : BitVec 1) (v1524 : BitVec 32) : Prop :=
  (∀ (k0_h2 : k0_cond2 v300 = 1#1), ∀ a, (k0_off77 v1524) a + S1x1x128.size a ≤ S1x20000x128.size a)
theorem k0_off77_inb : ∀ (v300 : BitVec 1) (v1524 : BitVec 32) (k0_hw76 : k0_chk76 v300 v1524), ∀ (k0_h2 : k0_cond2 v300 = 1#1), ∀ a, (k0_off77 v1524) a + S1x1x128.size a ≤ S1x20000x128.size a := fun v300 v1524 k0_hw76 k0_h2 => k0_hw76 k0_h2

def k0_off78 (v1538 : BitVec 32) : Fin 3 → Nat :=
  let c0_635 : Index := 0#32
  let v1539 : Index := Scalar.indexCast v1538
  let c0_636 : Index := 0#32
  ![0, v1539.toNat, 0]

def k0_chk77 (v300 : BitVec 1) (v1538 : BitVec 32) : Prop :=
  (∀ (k0_h2 : k0_cond2 v300 = 1#1), ∀ a, (k0_off78 v1538) a + S1x1x128.size a ≤ S1x20000x128.size a)
theorem k0_off78_inb : ∀ (v300 : BitVec 1) (v1538 : BitVec 32) (k0_hw77 : k0_chk77 v300 v1538), ∀ (k0_h2 : k0_cond2 v300 = 1#1), ∀ a, (k0_off78 v1538) a + S1x1x128.size a ≤ S1x20000x128.size a := fun v300 v1538 k0_hw77 k0_h2 => k0_hw77 k0_h2

def k0_off79 (v1552 : BitVec 32) : Fin 3 → Nat :=
  let c0_641 : Index := 0#32
  let v1553 : Index := Scalar.indexCast v1552
  let c0_642 : Index := 0#32
  ![0, v1553.toNat, 0]

def k0_chk78 (v300 : BitVec 1) (v1552 : BitVec 32) : Prop :=
  (∀ (k0_h2 : k0_cond2 v300 = 1#1), ∀ a, (k0_off79 v1552) a + S1x1x128.size a ≤ S1x20000x128.size a)
theorem k0_off79_inb : ∀ (v300 : BitVec 1) (v1552 : BitVec 32) (k0_hw78 : k0_chk78 v300 v1552), ∀ (k0_h2 : k0_cond2 v300 = 1#1), ∀ a, (k0_off79 v1552) a + S1x1x128.size a ≤ S1x20000x128.size a := fun v300 v1552 k0_hw78 k0_h2 => k0_hw78 k0_h2

def k0_off80 (v1566 : BitVec 32) : Fin 3 → Nat :=
  let c0_647 : Index := 0#32
  let v1567 : Index := Scalar.indexCast v1566
  let c0_648 : Index := 0#32
  ![0, v1567.toNat, 0]

def k0_chk79 (v300 : BitVec 1) (v1566 : BitVec 32) : Prop :=
  (∀ (k0_h2 : k0_cond2 v300 = 1#1), ∀ a, (k0_off80 v1566) a + S1x1x128.size a ≤ S1x20000x128.size a)
theorem k0_off80_inb : ∀ (v300 : BitVec 1) (v1566 : BitVec 32) (k0_hw79 : k0_chk79 v300 v1566), ∀ (k0_h2 : k0_cond2 v300 = 1#1), ∀ a, (k0_off80 v1566) a + S1x1x128.size a ≤ S1x20000x128.size a := fun v300 v1566 k0_hw79 k0_h2 => k0_hw79 k0_h2

def k0_off81 (v1580 : BitVec 32) : Fin 3 → Nat :=
  let c0_653 : Index := 0#32
  let v1581 : Index := Scalar.indexCast v1580
  let c0_654 : Index := 0#32
  ![0, v1581.toNat, 0]

def k0_chk80 (v300 : BitVec 1) (v1580 : BitVec 32) : Prop :=
  (∀ (k0_h2 : k0_cond2 v300 = 1#1), ∀ a, (k0_off81 v1580) a + S1x1x128.size a ≤ S1x20000x128.size a)
theorem k0_off81_inb : ∀ (v300 : BitVec 1) (v1580 : BitVec 32) (k0_hw80 : k0_chk80 v300 v1580), ∀ (k0_h2 : k0_cond2 v300 = 1#1), ∀ a, (k0_off81 v1580) a + S1x1x128.size a ≤ S1x20000x128.size a := fun v300 v1580 k0_hw80 k0_h2 => k0_hw80 k0_h2

def k0_off82 (v1594 : BitVec 32) : Fin 3 → Nat :=
  let c0_659 : Index := 0#32
  let v1595 : Index := Scalar.indexCast v1594
  let c0_660 : Index := 0#32
  ![0, v1595.toNat, 0]

def k0_chk81 (v300 : BitVec 1) (v1594 : BitVec 32) : Prop :=
  (∀ (k0_h2 : k0_cond2 v300 = 1#1), ∀ a, (k0_off82 v1594) a + S1x1x128.size a ≤ S1x20000x128.size a)
theorem k0_off82_inb : ∀ (v300 : BitVec 1) (v1594 : BitVec 32) (k0_hw81 : k0_chk81 v300 v1594), ∀ (k0_h2 : k0_cond2 v300 = 1#1), ∀ a, (k0_off82 v1594) a + S1x1x128.size a ≤ S1x20000x128.size a := fun v300 v1594 k0_hw81 k0_h2 => k0_hw81 k0_h2

def k0_off83 (v1608 : BitVec 32) : Fin 3 → Nat :=
  let c0_665 : Index := 0#32
  let v1609 : Index := Scalar.indexCast v1608
  let c0_666 : Index := 0#32
  ![0, v1609.toNat, 0]

def k0_chk82 (v300 : BitVec 1) (v1608 : BitVec 32) : Prop :=
  (∀ (k0_h2 : k0_cond2 v300 = 1#1), ∀ a, (k0_off83 v1608) a + S1x1x128.size a ≤ S1x20000x128.size a)
theorem k0_off83_inb : ∀ (v300 : BitVec 1) (v1608 : BitVec 32) (k0_hw82 : k0_chk82 v300 v1608), ∀ (k0_h2 : k0_cond2 v300 = 1#1), ∀ a, (k0_off83 v1608) a + S1x1x128.size a ≤ S1x20000x128.size a := fun v300 v1608 k0_hw82 k0_h2 => k0_hw82 k0_h2

def k0_off84 (v1640 : BitVec 32) : Fin 3 → Nat :=
  let c0_677 : Index := 0#32
  let v1641 : Index := Scalar.indexCast v1640
  let c0_678 : Index := 0#32
  ![0, v1641.toNat, 0]

def k0_chk83 (v300 : BitVec 1) (v1640 : BitVec 32) : Prop :=
  (∀ (k0_h2 : k0_cond2 v300 = 1#1), ∀ a, (k0_off84 v1640) a + S1x1x128.size a ≤ S1x20000x128.size a)
theorem k0_off84_inb : ∀ (v300 : BitVec 1) (v1640 : BitVec 32) (k0_hw83 : k0_chk83 v300 v1640), ∀ (k0_h2 : k0_cond2 v300 = 1#1), ∀ a, (k0_off84 v1640) a + S1x1x128.size a ≤ S1x20000x128.size a := fun v300 v1640 k0_hw83 k0_h2 => k0_hw83 k0_h2

def k0_off85 (v1654 : BitVec 32) : Fin 3 → Nat :=
  let c0_684 : Index := 0#32
  let v1655 : Index := Scalar.indexCast v1654
  let c0_685 : Index := 0#32
  ![0, v1655.toNat, 0]

def k0_chk84 (v300 : BitVec 1) (v1654 : BitVec 32) : Prop :=
  (∀ (k0_h2 : k0_cond2 v300 = 1#1), ∀ a, (k0_off85 v1654) a + S1x1x128.size a ≤ S1x20000x128.size a)
theorem k0_off85_inb : ∀ (v300 : BitVec 1) (v1654 : BitVec 32) (k0_hw84 : k0_chk84 v300 v1654), ∀ (k0_h2 : k0_cond2 v300 = 1#1), ∀ a, (k0_off85 v1654) a + S1x1x128.size a ≤ S1x20000x128.size a := fun v300 v1654 k0_hw84 k0_h2 => k0_hw84 k0_h2

def k0_off86 (v1668 : BitVec 32) : Fin 3 → Nat :=
  let c0_690 : Index := 0#32
  let v1669 : Index := Scalar.indexCast v1668
  let c0_691 : Index := 0#32
  ![0, v1669.toNat, 0]

def k0_chk85 (v300 : BitVec 1) (v1668 : BitVec 32) : Prop :=
  (∀ (k0_h2 : k0_cond2 v300 = 1#1), ∀ a, (k0_off86 v1668) a + S1x1x128.size a ≤ S1x20000x128.size a)
theorem k0_off86_inb : ∀ (v300 : BitVec 1) (v1668 : BitVec 32) (k0_hw85 : k0_chk85 v300 v1668), ∀ (k0_h2 : k0_cond2 v300 = 1#1), ∀ a, (k0_off86 v1668) a + S1x1x128.size a ≤ S1x20000x128.size a := fun v300 v1668 k0_hw85 k0_h2 => k0_hw85 k0_h2

def k0_off87 (v1682 : BitVec 32) : Fin 3 → Nat :=
  let c0_696 : Index := 0#32
  let v1683 : Index := Scalar.indexCast v1682
  let c0_697 : Index := 0#32
  ![0, v1683.toNat, 0]

def k0_chk86 (v300 : BitVec 1) (v1682 : BitVec 32) : Prop :=
  (∀ (k0_h2 : k0_cond2 v300 = 1#1), ∀ a, (k0_off87 v1682) a + S1x1x128.size a ≤ S1x20000x128.size a)
theorem k0_off87_inb : ∀ (v300 : BitVec 1) (v1682 : BitVec 32) (k0_hw86 : k0_chk86 v300 v1682), ∀ (k0_h2 : k0_cond2 v300 = 1#1), ∀ a, (k0_off87 v1682) a + S1x1x128.size a ≤ S1x20000x128.size a := fun v300 v1682 k0_hw86 k0_h2 => k0_hw86 k0_h2

def k0_off88 (v1696 : BitVec 32) : Fin 3 → Nat :=
  let c0_702 : Index := 0#32
  let v1697 : Index := Scalar.indexCast v1696
  let c0_703 : Index := 0#32
  ![0, v1697.toNat, 0]

def k0_chk87 (v300 : BitVec 1) (v1696 : BitVec 32) : Prop :=
  (∀ (k0_h2 : k0_cond2 v300 = 1#1), ∀ a, (k0_off88 v1696) a + S1x1x128.size a ≤ S1x20000x128.size a)
theorem k0_off88_inb : ∀ (v300 : BitVec 1) (v1696 : BitVec 32) (k0_hw87 : k0_chk87 v300 v1696), ∀ (k0_h2 : k0_cond2 v300 = 1#1), ∀ a, (k0_off88 v1696) a + S1x1x128.size a ≤ S1x20000x128.size a := fun v300 v1696 k0_hw87 k0_h2 => k0_hw87 k0_h2

def k0_off89 (v1710 : BitVec 32) : Fin 3 → Nat :=
  let c0_708 : Index := 0#32
  let v1711 : Index := Scalar.indexCast v1710
  let c0_709 : Index := 0#32
  ![0, v1711.toNat, 0]

def k0_chk88 (v300 : BitVec 1) (v1710 : BitVec 32) : Prop :=
  (∀ (k0_h2 : k0_cond2 v300 = 1#1), ∀ a, (k0_off89 v1710) a + S1x1x128.size a ≤ S1x20000x128.size a)
theorem k0_off89_inb : ∀ (v300 : BitVec 1) (v1710 : BitVec 32) (k0_hw88 : k0_chk88 v300 v1710), ∀ (k0_h2 : k0_cond2 v300 = 1#1), ∀ a, (k0_off89 v1710) a + S1x1x128.size a ≤ S1x20000x128.size a := fun v300 v1710 k0_hw88 k0_h2 => k0_hw88 k0_h2

def k0_off90 (v1724 : BitVec 32) : Fin 3 → Nat :=
  let c0_714 : Index := 0#32
  let v1725 : Index := Scalar.indexCast v1724
  let c0_715 : Index := 0#32
  ![0, v1725.toNat, 0]

def k0_chk89 (v300 : BitVec 1) (v1724 : BitVec 32) : Prop :=
  (∀ (k0_h2 : k0_cond2 v300 = 1#1), ∀ a, (k0_off90 v1724) a + S1x1x128.size a ≤ S1x20000x128.size a)
theorem k0_off90_inb : ∀ (v300 : BitVec 1) (v1724 : BitVec 32) (k0_hw89 : k0_chk89 v300 v1724), ∀ (k0_h2 : k0_cond2 v300 = 1#1), ∀ a, (k0_off90 v1724) a + S1x1x128.size a ≤ S1x20000x128.size a := fun v300 v1724 k0_hw89 k0_h2 => k0_hw89 k0_h2

def k0_off91 (v1738 : BitVec 32) : Fin 3 → Nat :=
  let c0_720 : Index := 0#32
  let v1739 : Index := Scalar.indexCast v1738
  let c0_721 : Index := 0#32
  ![0, v1739.toNat, 0]

def k0_chk90 (v300 : BitVec 1) (v1738 : BitVec 32) : Prop :=
  (∀ (k0_h2 : k0_cond2 v300 = 1#1), ∀ a, (k0_off91 v1738) a + S1x1x128.size a ≤ S1x20000x128.size a)
theorem k0_off91_inb : ∀ (v300 : BitVec 1) (v1738 : BitVec 32) (k0_hw90 : k0_chk90 v300 v1738), ∀ (k0_h2 : k0_cond2 v300 = 1#1), ∀ a, (k0_off91 v1738) a + S1x1x128.size a ≤ S1x20000x128.size a := fun v300 v1738 k0_hw90 k0_h2 => k0_hw90 k0_h2

def k0_off92 (v1770 : BitVec 32) : Fin 3 → Nat :=
  let c0_732 : Index := 0#32
  let v1771 : Index := Scalar.indexCast v1770
  let c0_733 : Index := 0#32
  ![0, v1771.toNat, 0]

def k0_chk91 (v300 : BitVec 1) (v1770 : BitVec 32) : Prop :=
  (∀ (k0_h2 : k0_cond2 v300 = 1#1), ∀ a, (k0_off92 v1770) a + S1x1x128.size a ≤ S1x20000x128.size a)
theorem k0_off92_inb : ∀ (v300 : BitVec 1) (v1770 : BitVec 32) (k0_hw91 : k0_chk91 v300 v1770), ∀ (k0_h2 : k0_cond2 v300 = 1#1), ∀ a, (k0_off92 v1770) a + S1x1x128.size a ≤ S1x20000x128.size a := fun v300 v1770 k0_hw91 k0_h2 => k0_hw91 k0_h2

def k0_off93 (v1784 : BitVec 32) : Fin 3 → Nat :=
  let c0_739 : Index := 0#32
  let v1785 : Index := Scalar.indexCast v1784
  let c0_740 : Index := 0#32
  ![0, v1785.toNat, 0]

def k0_chk92 (v300 : BitVec 1) (v1784 : BitVec 32) : Prop :=
  (∀ (k0_h2 : k0_cond2 v300 = 1#1), ∀ a, (k0_off93 v1784) a + S1x1x128.size a ≤ S1x20000x128.size a)
theorem k0_off93_inb : ∀ (v300 : BitVec 1) (v1784 : BitVec 32) (k0_hw92 : k0_chk92 v300 v1784), ∀ (k0_h2 : k0_cond2 v300 = 1#1), ∀ a, (k0_off93 v1784) a + S1x1x128.size a ≤ S1x20000x128.size a := fun v300 v1784 k0_hw92 k0_h2 => k0_hw92 k0_h2

def k0_off94 (v1798 : BitVec 32) : Fin 3 → Nat :=
  let c0_745 : Index := 0#32
  let v1799 : Index := Scalar.indexCast v1798
  let c0_746 : Index := 0#32
  ![0, v1799.toNat, 0]

def k0_chk93 (v300 : BitVec 1) (v1798 : BitVec 32) : Prop :=
  (∀ (k0_h2 : k0_cond2 v300 = 1#1), ∀ a, (k0_off94 v1798) a + S1x1x128.size a ≤ S1x20000x128.size a)
theorem k0_off94_inb : ∀ (v300 : BitVec 1) (v1798 : BitVec 32) (k0_hw93 : k0_chk93 v300 v1798), ∀ (k0_h2 : k0_cond2 v300 = 1#1), ∀ a, (k0_off94 v1798) a + S1x1x128.size a ≤ S1x20000x128.size a := fun v300 v1798 k0_hw93 k0_h2 => k0_hw93 k0_h2

def k0_off95 (v1812 : BitVec 32) : Fin 3 → Nat :=
  let c0_751 : Index := 0#32
  let v1813 : Index := Scalar.indexCast v1812
  let c0_752 : Index := 0#32
  ![0, v1813.toNat, 0]

def k0_chk94 (v300 : BitVec 1) (v1812 : BitVec 32) : Prop :=
  (∀ (k0_h2 : k0_cond2 v300 = 1#1), ∀ a, (k0_off95 v1812) a + S1x1x128.size a ≤ S1x20000x128.size a)
theorem k0_off95_inb : ∀ (v300 : BitVec 1) (v1812 : BitVec 32) (k0_hw94 : k0_chk94 v300 v1812), ∀ (k0_h2 : k0_cond2 v300 = 1#1), ∀ a, (k0_off95 v1812) a + S1x1x128.size a ≤ S1x20000x128.size a := fun v300 v1812 k0_hw94 k0_h2 => k0_hw94 k0_h2

def k0_off96 (v1826 : BitVec 32) : Fin 3 → Nat :=
  let c0_757 : Index := 0#32
  let v1827 : Index := Scalar.indexCast v1826
  let c0_758 : Index := 0#32
  ![0, v1827.toNat, 0]

def k0_chk95 (v300 : BitVec 1) (v1826 : BitVec 32) : Prop :=
  (∀ (k0_h2 : k0_cond2 v300 = 1#1), ∀ a, (k0_off96 v1826) a + S1x1x128.size a ≤ S1x20000x128.size a)
theorem k0_off96_inb : ∀ (v300 : BitVec 1) (v1826 : BitVec 32) (k0_hw95 : k0_chk95 v300 v1826), ∀ (k0_h2 : k0_cond2 v300 = 1#1), ∀ a, (k0_off96 v1826) a + S1x1x128.size a ≤ S1x20000x128.size a := fun v300 v1826 k0_hw95 k0_h2 => k0_hw95 k0_h2

def k0_off97 (v1840 : BitVec 32) : Fin 3 → Nat :=
  let c0_763 : Index := 0#32
  let v1841 : Index := Scalar.indexCast v1840
  let c0_764 : Index := 0#32
  ![0, v1841.toNat, 0]

def k0_chk96 (v300 : BitVec 1) (v1840 : BitVec 32) : Prop :=
  (∀ (k0_h2 : k0_cond2 v300 = 1#1), ∀ a, (k0_off97 v1840) a + S1x1x128.size a ≤ S1x20000x128.size a)
theorem k0_off97_inb : ∀ (v300 : BitVec 1) (v1840 : BitVec 32) (k0_hw96 : k0_chk96 v300 v1840), ∀ (k0_h2 : k0_cond2 v300 = 1#1), ∀ a, (k0_off97 v1840) a + S1x1x128.size a ≤ S1x20000x128.size a := fun v300 v1840 k0_hw96 k0_h2 => k0_hw96 k0_h2

def k0_off98 (v1854 : BitVec 32) : Fin 3 → Nat :=
  let c0_769 : Index := 0#32
  let v1855 : Index := Scalar.indexCast v1854
  let c0_770 : Index := 0#32
  ![0, v1855.toNat, 0]

def k0_chk97 (v300 : BitVec 1) (v1854 : BitVec 32) : Prop :=
  (∀ (k0_h2 : k0_cond2 v300 = 1#1), ∀ a, (k0_off98 v1854) a + S1x1x128.size a ≤ S1x20000x128.size a)
theorem k0_off98_inb : ∀ (v300 : BitVec 1) (v1854 : BitVec 32) (k0_hw97 : k0_chk97 v300 v1854), ∀ (k0_h2 : k0_cond2 v300 = 1#1), ∀ a, (k0_off98 v1854) a + S1x1x128.size a ≤ S1x20000x128.size a := fun v300 v1854 k0_hw97 k0_h2 => k0_hw97 k0_h2

def k0_off99 (v1868 : BitVec 32) : Fin 3 → Nat :=
  let c0_775 : Index := 0#32
  let v1869 : Index := Scalar.indexCast v1868
  let c0_776 : Index := 0#32
  ![0, v1869.toNat, 0]

def k0_chk98 (v300 : BitVec 1) (v1868 : BitVec 32) : Prop :=
  (∀ (k0_h2 : k0_cond2 v300 = 1#1), ∀ a, (k0_off99 v1868) a + S1x1x128.size a ≤ S1x20000x128.size a)
theorem k0_off99_inb : ∀ (v300 : BitVec 1) (v1868 : BitVec 32) (k0_hw98 : k0_chk98 v300 v1868), ∀ (k0_h2 : k0_cond2 v300 = 1#1), ∀ a, (k0_off99 v1868) a + S1x1x128.size a ≤ S1x20000x128.size a := fun v300 v1868 k0_hw98 k0_h2 => k0_hw98 k0_h2

def k0_off100 (v1900 : BitVec 32) : Fin 3 → Nat :=
  let c0_787 : Index := 0#32
  let v1901 : Index := Scalar.indexCast v1900
  let c0_788 : Index := 0#32
  ![0, v1901.toNat, 0]

def k0_chk99 (v300 : BitVec 1) (v1900 : BitVec 32) : Prop :=
  (∀ (k0_h2 : k0_cond2 v300 = 1#1), ∀ a, (k0_off100 v1900) a + S1x1x128.size a ≤ S1x20000x128.size a)
theorem k0_off100_inb : ∀ (v300 : BitVec 1) (v1900 : BitVec 32) (k0_hw99 : k0_chk99 v300 v1900), ∀ (k0_h2 : k0_cond2 v300 = 1#1), ∀ a, (k0_off100 v1900) a + S1x1x128.size a ≤ S1x20000x128.size a := fun v300 v1900 k0_hw99 k0_h2 => k0_hw99 k0_h2

def k0_off101 (v1914 : BitVec 32) : Fin 3 → Nat :=
  let c0_794 : Index := 0#32
  let v1915 : Index := Scalar.indexCast v1914
  let c0_795 : Index := 0#32
  ![0, v1915.toNat, 0]

def k0_chk100 (v300 : BitVec 1) (v1914 : BitVec 32) : Prop :=
  (∀ (k0_h2 : k0_cond2 v300 = 1#1), ∀ a, (k0_off101 v1914) a + S1x1x128.size a ≤ S1x20000x128.size a)
theorem k0_off101_inb : ∀ (v300 : BitVec 1) (v1914 : BitVec 32) (k0_hw100 : k0_chk100 v300 v1914), ∀ (k0_h2 : k0_cond2 v300 = 1#1), ∀ a, (k0_off101 v1914) a + S1x1x128.size a ≤ S1x20000x128.size a := fun v300 v1914 k0_hw100 k0_h2 => k0_hw100 k0_h2

def k0_off102 (v1928 : BitVec 32) : Fin 3 → Nat :=
  let c0_800 : Index := 0#32
  let v1929 : Index := Scalar.indexCast v1928
  let c0_801 : Index := 0#32
  ![0, v1929.toNat, 0]

def k0_chk101 (v300 : BitVec 1) (v1928 : BitVec 32) : Prop :=
  (∀ (k0_h2 : k0_cond2 v300 = 1#1), ∀ a, (k0_off102 v1928) a + S1x1x128.size a ≤ S1x20000x128.size a)
theorem k0_off102_inb : ∀ (v300 : BitVec 1) (v1928 : BitVec 32) (k0_hw101 : k0_chk101 v300 v1928), ∀ (k0_h2 : k0_cond2 v300 = 1#1), ∀ a, (k0_off102 v1928) a + S1x1x128.size a ≤ S1x20000x128.size a := fun v300 v1928 k0_hw101 k0_h2 => k0_hw101 k0_h2

def k0_off103 (v1942 : BitVec 32) : Fin 3 → Nat :=
  let c0_806 : Index := 0#32
  let v1943 : Index := Scalar.indexCast v1942
  let c0_807 : Index := 0#32
  ![0, v1943.toNat, 0]

def k0_chk102 (v300 : BitVec 1) (v1942 : BitVec 32) : Prop :=
  (∀ (k0_h2 : k0_cond2 v300 = 1#1), ∀ a, (k0_off103 v1942) a + S1x1x128.size a ≤ S1x20000x128.size a)
theorem k0_off103_inb : ∀ (v300 : BitVec 1) (v1942 : BitVec 32) (k0_hw102 : k0_chk102 v300 v1942), ∀ (k0_h2 : k0_cond2 v300 = 1#1), ∀ a, (k0_off103 v1942) a + S1x1x128.size a ≤ S1x20000x128.size a := fun v300 v1942 k0_hw102 k0_h2 => k0_hw102 k0_h2

def k0_off104 (v1956 : BitVec 32) : Fin 3 → Nat :=
  let c0_812 : Index := 0#32
  let v1957 : Index := Scalar.indexCast v1956
  let c0_813 : Index := 0#32
  ![0, v1957.toNat, 0]

def k0_chk103 (v300 : BitVec 1) (v1956 : BitVec 32) : Prop :=
  (∀ (k0_h2 : k0_cond2 v300 = 1#1), ∀ a, (k0_off104 v1956) a + S1x1x128.size a ≤ S1x20000x128.size a)
theorem k0_off104_inb : ∀ (v300 : BitVec 1) (v1956 : BitVec 32) (k0_hw103 : k0_chk103 v300 v1956), ∀ (k0_h2 : k0_cond2 v300 = 1#1), ∀ a, (k0_off104 v1956) a + S1x1x128.size a ≤ S1x20000x128.size a := fun v300 v1956 k0_hw103 k0_h2 => k0_hw103 k0_h2

def k0_off105 (v1970 : BitVec 32) : Fin 3 → Nat :=
  let c0_818 : Index := 0#32
  let v1971 : Index := Scalar.indexCast v1970
  let c0_819 : Index := 0#32
  ![0, v1971.toNat, 0]

def k0_chk104 (v300 : BitVec 1) (v1970 : BitVec 32) : Prop :=
  (∀ (k0_h2 : k0_cond2 v300 = 1#1), ∀ a, (k0_off105 v1970) a + S1x1x128.size a ≤ S1x20000x128.size a)
theorem k0_off105_inb : ∀ (v300 : BitVec 1) (v1970 : BitVec 32) (k0_hw104 : k0_chk104 v300 v1970), ∀ (k0_h2 : k0_cond2 v300 = 1#1), ∀ a, (k0_off105 v1970) a + S1x1x128.size a ≤ S1x20000x128.size a := fun v300 v1970 k0_hw104 k0_h2 => k0_hw104 k0_h2

def k0_off106 (v1984 : BitVec 32) : Fin 3 → Nat :=
  let c0_824 : Index := 0#32
  let v1985 : Index := Scalar.indexCast v1984
  let c0_825 : Index := 0#32
  ![0, v1985.toNat, 0]

def k0_chk105 (v300 : BitVec 1) (v1984 : BitVec 32) : Prop :=
  (∀ (k0_h2 : k0_cond2 v300 = 1#1), ∀ a, (k0_off106 v1984) a + S1x1x128.size a ≤ S1x20000x128.size a)
theorem k0_off106_inb : ∀ (v300 : BitVec 1) (v1984 : BitVec 32) (k0_hw105 : k0_chk105 v300 v1984), ∀ (k0_h2 : k0_cond2 v300 = 1#1), ∀ a, (k0_off106 v1984) a + S1x1x128.size a ≤ S1x20000x128.size a := fun v300 v1984 k0_hw105 k0_h2 => k0_hw105 k0_h2

def k0_off107 (v1998 : BitVec 32) : Fin 3 → Nat :=
  let c0_830 : Index := 0#32
  let v1999 : Index := Scalar.indexCast v1998
  let c0_831 : Index := 0#32
  ![0, v1999.toNat, 0]

def k0_chk106 (v300 : BitVec 1) (v1998 : BitVec 32) : Prop :=
  (∀ (k0_h2 : k0_cond2 v300 = 1#1), ∀ a, (k0_off107 v1998) a + S1x1x128.size a ≤ S1x20000x128.size a)
theorem k0_off107_inb : ∀ (v300 : BitVec 1) (v1998 : BitVec 32) (k0_hw106 : k0_chk106 v300 v1998), ∀ (k0_h2 : k0_cond2 v300 = 1#1), ∀ a, (k0_off107 v1998) a + S1x1x128.size a ≤ S1x20000x128.size a := fun v300 v1998 k0_hw106 k0_h2 => k0_hw106 k0_h2

def k0_off108 (v2030 : BitVec 32) : Fin 3 → Nat :=
  let c0_842 : Index := 0#32
  let v2031 : Index := Scalar.indexCast v2030
  let c0_843 : Index := 0#32
  ![0, v2031.toNat, 0]

def k0_chk107 (v300 : BitVec 1) (v2030 : BitVec 32) : Prop :=
  (∀ (k0_h2 : k0_cond2 v300 = 1#1), ∀ a, (k0_off108 v2030) a + S1x1x128.size a ≤ S1x20000x128.size a)
theorem k0_off108_inb : ∀ (v300 : BitVec 1) (v2030 : BitVec 32) (k0_hw107 : k0_chk107 v300 v2030), ∀ (k0_h2 : k0_cond2 v300 = 1#1), ∀ a, (k0_off108 v2030) a + S1x1x128.size a ≤ S1x20000x128.size a := fun v300 v2030 k0_hw107 k0_h2 => k0_hw107 k0_h2

def k0_off109 (v2044 : BitVec 32) : Fin 3 → Nat :=
  let c0_849 : Index := 0#32
  let v2045 : Index := Scalar.indexCast v2044
  let c0_850 : Index := 0#32
  ![0, v2045.toNat, 0]

def k0_chk108 (v300 : BitVec 1) (v2044 : BitVec 32) : Prop :=
  (∀ (k0_h2 : k0_cond2 v300 = 1#1), ∀ a, (k0_off109 v2044) a + S1x1x128.size a ≤ S1x20000x128.size a)
theorem k0_off109_inb : ∀ (v300 : BitVec 1) (v2044 : BitVec 32) (k0_hw108 : k0_chk108 v300 v2044), ∀ (k0_h2 : k0_cond2 v300 = 1#1), ∀ a, (k0_off109 v2044) a + S1x1x128.size a ≤ S1x20000x128.size a := fun v300 v2044 k0_hw108 k0_h2 => k0_hw108 k0_h2

def k0_off110 (v2058 : BitVec 32) : Fin 3 → Nat :=
  let c0_855 : Index := 0#32
  let v2059 : Index := Scalar.indexCast v2058
  let c0_856 : Index := 0#32
  ![0, v2059.toNat, 0]

def k0_chk109 (v300 : BitVec 1) (v2058 : BitVec 32) : Prop :=
  (∀ (k0_h2 : k0_cond2 v300 = 1#1), ∀ a, (k0_off110 v2058) a + S1x1x128.size a ≤ S1x20000x128.size a)
theorem k0_off110_inb : ∀ (v300 : BitVec 1) (v2058 : BitVec 32) (k0_hw109 : k0_chk109 v300 v2058), ∀ (k0_h2 : k0_cond2 v300 = 1#1), ∀ a, (k0_off110 v2058) a + S1x1x128.size a ≤ S1x20000x128.size a := fun v300 v2058 k0_hw109 k0_h2 => k0_hw109 k0_h2

def k0_off111 (v2072 : BitVec 32) : Fin 3 → Nat :=
  let c0_861 : Index := 0#32
  let v2073 : Index := Scalar.indexCast v2072
  let c0_862 : Index := 0#32
  ![0, v2073.toNat, 0]

def k0_chk110 (v300 : BitVec 1) (v2072 : BitVec 32) : Prop :=
  (∀ (k0_h2 : k0_cond2 v300 = 1#1), ∀ a, (k0_off111 v2072) a + S1x1x128.size a ≤ S1x20000x128.size a)
theorem k0_off111_inb : ∀ (v300 : BitVec 1) (v2072 : BitVec 32) (k0_hw110 : k0_chk110 v300 v2072), ∀ (k0_h2 : k0_cond2 v300 = 1#1), ∀ a, (k0_off111 v2072) a + S1x1x128.size a ≤ S1x20000x128.size a := fun v300 v2072 k0_hw110 k0_h2 => k0_hw110 k0_h2

def k0_off112 (v2086 : BitVec 32) : Fin 3 → Nat :=
  let c0_867 : Index := 0#32
  let v2087 : Index := Scalar.indexCast v2086
  let c0_868 : Index := 0#32
  ![0, v2087.toNat, 0]

def k0_chk111 (v300 : BitVec 1) (v2086 : BitVec 32) : Prop :=
  (∀ (k0_h2 : k0_cond2 v300 = 1#1), ∀ a, (k0_off112 v2086) a + S1x1x128.size a ≤ S1x20000x128.size a)
theorem k0_off112_inb : ∀ (v300 : BitVec 1) (v2086 : BitVec 32) (k0_hw111 : k0_chk111 v300 v2086), ∀ (k0_h2 : k0_cond2 v300 = 1#1), ∀ a, (k0_off112 v2086) a + S1x1x128.size a ≤ S1x20000x128.size a := fun v300 v2086 k0_hw111 k0_h2 => k0_hw111 k0_h2

def k0_off113 (v2100 : BitVec 32) : Fin 3 → Nat :=
  let c0_873 : Index := 0#32
  let v2101 : Index := Scalar.indexCast v2100
  let c0_874 : Index := 0#32
  ![0, v2101.toNat, 0]

def k0_chk112 (v300 : BitVec 1) (v2100 : BitVec 32) : Prop :=
  (∀ (k0_h2 : k0_cond2 v300 = 1#1), ∀ a, (k0_off113 v2100) a + S1x1x128.size a ≤ S1x20000x128.size a)
theorem k0_off113_inb : ∀ (v300 : BitVec 1) (v2100 : BitVec 32) (k0_hw112 : k0_chk112 v300 v2100), ∀ (k0_h2 : k0_cond2 v300 = 1#1), ∀ a, (k0_off113 v2100) a + S1x1x128.size a ≤ S1x20000x128.size a := fun v300 v2100 k0_hw112 k0_h2 => k0_hw112 k0_h2

def k0_off114 (v2114 : BitVec 32) : Fin 3 → Nat :=
  let c0_879 : Index := 0#32
  let v2115 : Index := Scalar.indexCast v2114
  let c0_880 : Index := 0#32
  ![0, v2115.toNat, 0]

def k0_chk113 (v300 : BitVec 1) (v2114 : BitVec 32) : Prop :=
  (∀ (k0_h2 : k0_cond2 v300 = 1#1), ∀ a, (k0_off114 v2114) a + S1x1x128.size a ≤ S1x20000x128.size a)
theorem k0_off114_inb : ∀ (v300 : BitVec 1) (v2114 : BitVec 32) (k0_hw113 : k0_chk113 v300 v2114), ∀ (k0_h2 : k0_cond2 v300 = 1#1), ∀ a, (k0_off114 v2114) a + S1x1x128.size a ≤ S1x20000x128.size a := fun v300 v2114 k0_hw113 k0_h2 => k0_hw113 k0_h2

def k0_off115 (v2128 : BitVec 32) : Fin 3 → Nat :=
  let c0_885 : Index := 0#32
  let v2129 : Index := Scalar.indexCast v2128
  let c0_886 : Index := 0#32
  ![0, v2129.toNat, 0]

def k0_chk114 (v300 : BitVec 1) (v2128 : BitVec 32) : Prop :=
  (∀ (k0_h2 : k0_cond2 v300 = 1#1), ∀ a, (k0_off115 v2128) a + S1x1x128.size a ≤ S1x20000x128.size a)
theorem k0_off115_inb : ∀ (v300 : BitVec 1) (v2128 : BitVec 32) (k0_hw114 : k0_chk114 v300 v2128), ∀ (k0_h2 : k0_cond2 v300 = 1#1), ∀ a, (k0_off115 v2128) a + S1x1x128.size a ≤ S1x20000x128.size a := fun v300 v2128 k0_hw114 k0_h2 => k0_hw114 k0_h2

def k0_off116 (v2160 : BitVec 32) : Fin 3 → Nat :=
  let c0_897 : Index := 0#32
  let v2161 : Index := Scalar.indexCast v2160
  let c0_898 : Index := 0#32
  ![0, v2161.toNat, 0]

def k0_chk115 (v300 : BitVec 1) (v2160 : BitVec 32) : Prop :=
  (∀ (k0_h2 : k0_cond2 v300 = 1#1), ∀ a, (k0_off116 v2160) a + S1x1x128.size a ≤ S1x20000x128.size a)
theorem k0_off116_inb : ∀ (v300 : BitVec 1) (v2160 : BitVec 32) (k0_hw115 : k0_chk115 v300 v2160), ∀ (k0_h2 : k0_cond2 v300 = 1#1), ∀ a, (k0_off116 v2160) a + S1x1x128.size a ≤ S1x20000x128.size a := fun v300 v2160 k0_hw115 k0_h2 => k0_hw115 k0_h2

def k0_off117 (v2174 : BitVec 32) : Fin 3 → Nat :=
  let c0_904 : Index := 0#32
  let v2175 : Index := Scalar.indexCast v2174
  let c0_905 : Index := 0#32
  ![0, v2175.toNat, 0]

def k0_chk116 (v300 : BitVec 1) (v2174 : BitVec 32) : Prop :=
  (∀ (k0_h2 : k0_cond2 v300 = 1#1), ∀ a, (k0_off117 v2174) a + S1x1x128.size a ≤ S1x20000x128.size a)
theorem k0_off117_inb : ∀ (v300 : BitVec 1) (v2174 : BitVec 32) (k0_hw116 : k0_chk116 v300 v2174), ∀ (k0_h2 : k0_cond2 v300 = 1#1), ∀ a, (k0_off117 v2174) a + S1x1x128.size a ≤ S1x20000x128.size a := fun v300 v2174 k0_hw116 k0_h2 => k0_hw116 k0_h2

def k0_off118 (v2188 : BitVec 32) : Fin 3 → Nat :=
  let c0_910 : Index := 0#32
  let v2189 : Index := Scalar.indexCast v2188
  let c0_911 : Index := 0#32
  ![0, v2189.toNat, 0]

def k0_chk117 (v300 : BitVec 1) (v2188 : BitVec 32) : Prop :=
  (∀ (k0_h2 : k0_cond2 v300 = 1#1), ∀ a, (k0_off118 v2188) a + S1x1x128.size a ≤ S1x20000x128.size a)
theorem k0_off118_inb : ∀ (v300 : BitVec 1) (v2188 : BitVec 32) (k0_hw117 : k0_chk117 v300 v2188), ∀ (k0_h2 : k0_cond2 v300 = 1#1), ∀ a, (k0_off118 v2188) a + S1x1x128.size a ≤ S1x20000x128.size a := fun v300 v2188 k0_hw117 k0_h2 => k0_hw117 k0_h2

def k0_off119 (v2202 : BitVec 32) : Fin 3 → Nat :=
  let c0_916 : Index := 0#32
  let v2203 : Index := Scalar.indexCast v2202
  let c0_917 : Index := 0#32
  ![0, v2203.toNat, 0]

def k0_chk118 (v300 : BitVec 1) (v2202 : BitVec 32) : Prop :=
  (∀ (k0_h2 : k0_cond2 v300 = 1#1), ∀ a, (k0_off119 v2202) a + S1x1x128.size a ≤ S1x20000x128.size a)
theorem k0_off119_inb : ∀ (v300 : BitVec 1) (v2202 : BitVec 32) (k0_hw118 : k0_chk118 v300 v2202), ∀ (k0_h2 : k0_cond2 v300 = 1#1), ∀ a, (k0_off119 v2202) a + S1x1x128.size a ≤ S1x20000x128.size a := fun v300 v2202 k0_hw118 k0_h2 => k0_hw118 k0_h2

def k0_off120 (v2216 : BitVec 32) : Fin 3 → Nat :=
  let c0_922 : Index := 0#32
  let v2217 : Index := Scalar.indexCast v2216
  let c0_923 : Index := 0#32
  ![0, v2217.toNat, 0]

def k0_chk119 (v300 : BitVec 1) (v2216 : BitVec 32) : Prop :=
  (∀ (k0_h2 : k0_cond2 v300 = 1#1), ∀ a, (k0_off120 v2216) a + S1x1x128.size a ≤ S1x20000x128.size a)
theorem k0_off120_inb : ∀ (v300 : BitVec 1) (v2216 : BitVec 32) (k0_hw119 : k0_chk119 v300 v2216), ∀ (k0_h2 : k0_cond2 v300 = 1#1), ∀ a, (k0_off120 v2216) a + S1x1x128.size a ≤ S1x20000x128.size a := fun v300 v2216 k0_hw119 k0_h2 => k0_hw119 k0_h2

def k0_off121 (v2230 : BitVec 32) : Fin 3 → Nat :=
  let c0_928 : Index := 0#32
  let v2231 : Index := Scalar.indexCast v2230
  let c0_929 : Index := 0#32
  ![0, v2231.toNat, 0]

def k0_chk120 (v300 : BitVec 1) (v2230 : BitVec 32) : Prop :=
  (∀ (k0_h2 : k0_cond2 v300 = 1#1), ∀ a, (k0_off121 v2230) a + S1x1x128.size a ≤ S1x20000x128.size a)
theorem k0_off121_inb : ∀ (v300 : BitVec 1) (v2230 : BitVec 32) (k0_hw120 : k0_chk120 v300 v2230), ∀ (k0_h2 : k0_cond2 v300 = 1#1), ∀ a, (k0_off121 v2230) a + S1x1x128.size a ≤ S1x20000x128.size a := fun v300 v2230 k0_hw120 k0_h2 => k0_hw120 k0_h2

def k0_off122 (v2244 : BitVec 32) : Fin 3 → Nat :=
  let c0_934 : Index := 0#32
  let v2245 : Index := Scalar.indexCast v2244
  let c0_935 : Index := 0#32
  ![0, v2245.toNat, 0]

def k0_chk121 (v300 : BitVec 1) (v2244 : BitVec 32) : Prop :=
  (∀ (k0_h2 : k0_cond2 v300 = 1#1), ∀ a, (k0_off122 v2244) a + S1x1x128.size a ≤ S1x20000x128.size a)
theorem k0_off122_inb : ∀ (v300 : BitVec 1) (v2244 : BitVec 32) (k0_hw121 : k0_chk121 v300 v2244), ∀ (k0_h2 : k0_cond2 v300 = 1#1), ∀ a, (k0_off122 v2244) a + S1x1x128.size a ≤ S1x20000x128.size a := fun v300 v2244 k0_hw121 k0_h2 => k0_hw121 k0_h2

def k0_off123 (v2258 : BitVec 32) : Fin 3 → Nat :=
  let c0_940 : Index := 0#32
  let v2259 : Index := Scalar.indexCast v2258
  let c0_941 : Index := 0#32
  ![0, v2259.toNat, 0]

def k0_chk122 (v300 : BitVec 1) (v2258 : BitVec 32) : Prop :=
  (∀ (k0_h2 : k0_cond2 v300 = 1#1), ∀ a, (k0_off123 v2258) a + S1x1x128.size a ≤ S1x20000x128.size a)
theorem k0_off123_inb : ∀ (v300 : BitVec 1) (v2258 : BitVec 32) (k0_hw122 : k0_chk122 v300 v2258), ∀ (k0_h2 : k0_cond2 v300 = 1#1), ∀ a, (k0_off123 v2258) a + S1x1x128.size a ≤ S1x20000x128.size a := fun v300 v2258 k0_hw122 k0_h2 => k0_hw122 k0_h2

def k0_off124 (v2290 : BitVec 32) : Fin 3 → Nat :=
  let c0_952 : Index := 0#32
  let v2291 : Index := Scalar.indexCast v2290
  let c0_953 : Index := 0#32
  ![0, v2291.toNat, 0]

def k0_chk123 (v300 : BitVec 1) (v2290 : BitVec 32) : Prop :=
  (∀ (k0_h2 : k0_cond2 v300 = 1#1), ∀ a, (k0_off124 v2290) a + S1x1x128.size a ≤ S1x20000x128.size a)
theorem k0_off124_inb : ∀ (v300 : BitVec 1) (v2290 : BitVec 32) (k0_hw123 : k0_chk123 v300 v2290), ∀ (k0_h2 : k0_cond2 v300 = 1#1), ∀ a, (k0_off124 v2290) a + S1x1x128.size a ≤ S1x20000x128.size a := fun v300 v2290 k0_hw123 k0_h2 => k0_hw123 k0_h2

def k0_off125 (v2304 : BitVec 32) : Fin 3 → Nat :=
  let c0_959 : Index := 0#32
  let v2305 : Index := Scalar.indexCast v2304
  let c0_960 : Index := 0#32
  ![0, v2305.toNat, 0]

def k0_chk124 (v300 : BitVec 1) (v2304 : BitVec 32) : Prop :=
  (∀ (k0_h2 : k0_cond2 v300 = 1#1), ∀ a, (k0_off125 v2304) a + S1x1x128.size a ≤ S1x20000x128.size a)
theorem k0_off125_inb : ∀ (v300 : BitVec 1) (v2304 : BitVec 32) (k0_hw124 : k0_chk124 v300 v2304), ∀ (k0_h2 : k0_cond2 v300 = 1#1), ∀ a, (k0_off125 v2304) a + S1x1x128.size a ≤ S1x20000x128.size a := fun v300 v2304 k0_hw124 k0_h2 => k0_hw124 k0_h2

def k0_off126 (v2318 : BitVec 32) : Fin 3 → Nat :=
  let c0_965 : Index := 0#32
  let v2319 : Index := Scalar.indexCast v2318
  let c0_966 : Index := 0#32
  ![0, v2319.toNat, 0]

def k0_chk125 (v300 : BitVec 1) (v2318 : BitVec 32) : Prop :=
  (∀ (k0_h2 : k0_cond2 v300 = 1#1), ∀ a, (k0_off126 v2318) a + S1x1x128.size a ≤ S1x20000x128.size a)
theorem k0_off126_inb : ∀ (v300 : BitVec 1) (v2318 : BitVec 32) (k0_hw125 : k0_chk125 v300 v2318), ∀ (k0_h2 : k0_cond2 v300 = 1#1), ∀ a, (k0_off126 v2318) a + S1x1x128.size a ≤ S1x20000x128.size a := fun v300 v2318 k0_hw125 k0_h2 => k0_hw125 k0_h2

def k0_off127 (v2332 : BitVec 32) : Fin 3 → Nat :=
  let c0_971 : Index := 0#32
  let v2333 : Index := Scalar.indexCast v2332
  let c0_972 : Index := 0#32
  ![0, v2333.toNat, 0]

def k0_chk126 (v300 : BitVec 1) (v2332 : BitVec 32) : Prop :=
  (∀ (k0_h2 : k0_cond2 v300 = 1#1), ∀ a, (k0_off127 v2332) a + S1x1x128.size a ≤ S1x20000x128.size a)
theorem k0_off127_inb : ∀ (v300 : BitVec 1) (v2332 : BitVec 32) (k0_hw126 : k0_chk126 v300 v2332), ∀ (k0_h2 : k0_cond2 v300 = 1#1), ∀ a, (k0_off127 v2332) a + S1x1x128.size a ≤ S1x20000x128.size a := fun v300 v2332 k0_hw126 k0_h2 => k0_hw126 k0_h2

def k0_off128 (v2346 : BitVec 32) : Fin 3 → Nat :=
  let c0_977 : Index := 0#32
  let v2347 : Index := Scalar.indexCast v2346
  let c0_978 : Index := 0#32
  ![0, v2347.toNat, 0]

def k0_chk127 (v300 : BitVec 1) (v2346 : BitVec 32) : Prop :=
  (∀ (k0_h2 : k0_cond2 v300 = 1#1), ∀ a, (k0_off128 v2346) a + S1x1x128.size a ≤ S1x20000x128.size a)
theorem k0_off128_inb : ∀ (v300 : BitVec 1) (v2346 : BitVec 32) (k0_hw127 : k0_chk127 v300 v2346), ∀ (k0_h2 : k0_cond2 v300 = 1#1), ∀ a, (k0_off128 v2346) a + S1x1x128.size a ≤ S1x20000x128.size a := fun v300 v2346 k0_hw127 k0_h2 => k0_hw127 k0_h2

def k0_off129 (v2360 : BitVec 32) : Fin 3 → Nat :=
  let c0_983 : Index := 0#32
  let v2361 : Index := Scalar.indexCast v2360
  let c0_984 : Index := 0#32
  ![0, v2361.toNat, 0]

def k0_chk128 (v300 : BitVec 1) (v2360 : BitVec 32) : Prop :=
  (∀ (k0_h2 : k0_cond2 v300 = 1#1), ∀ a, (k0_off129 v2360) a + S1x1x128.size a ≤ S1x20000x128.size a)
theorem k0_off129_inb : ∀ (v300 : BitVec 1) (v2360 : BitVec 32) (k0_hw128 : k0_chk128 v300 v2360), ∀ (k0_h2 : k0_cond2 v300 = 1#1), ∀ a, (k0_off129 v2360) a + S1x1x128.size a ≤ S1x20000x128.size a := fun v300 v2360 k0_hw128 k0_h2 => k0_hw128 k0_h2

def k0_off130 (v2374 : BitVec 32) : Fin 3 → Nat :=
  let c0_989 : Index := 0#32
  let v2375 : Index := Scalar.indexCast v2374
  let c0_990 : Index := 0#32
  ![0, v2375.toNat, 0]

def k0_chk129 (v300 : BitVec 1) (v2374 : BitVec 32) : Prop :=
  (∀ (k0_h2 : k0_cond2 v300 = 1#1), ∀ a, (k0_off130 v2374) a + S1x1x128.size a ≤ S1x20000x128.size a)
theorem k0_off130_inb : ∀ (v300 : BitVec 1) (v2374 : BitVec 32) (k0_hw129 : k0_chk129 v300 v2374), ∀ (k0_h2 : k0_cond2 v300 = 1#1), ∀ a, (k0_off130 v2374) a + S1x1x128.size a ≤ S1x20000x128.size a := fun v300 v2374 k0_hw129 k0_h2 => k0_hw129 k0_h2

def k0_off131 (v2388 : BitVec 32) : Fin 3 → Nat :=
  let c0_995 : Index := 0#32
  let v2389 : Index := Scalar.indexCast v2388
  let c0_996 : Index := 0#32
  ![0, v2389.toNat, 0]

def k0_chk130 (v300 : BitVec 1) (v2388 : BitVec 32) : Prop :=
  (∀ (k0_h2 : k0_cond2 v300 = 1#1), ∀ a, (k0_off131 v2388) a + S1x1x128.size a ≤ S1x20000x128.size a)
theorem k0_off131_inb : ∀ (v300 : BitVec 1) (v2388 : BitVec 32) (k0_hw130 : k0_chk130 v300 v2388), ∀ (k0_h2 : k0_cond2 v300 = 1#1), ∀ a, (k0_off131 v2388) a + S1x1x128.size a ≤ S1x20000x128.size a := fun v300 v2388 k0_hw130 k0_h2 => k0_hw130 k0_h2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x20000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S_ : Shape := ⟨0, ![]⟩
abbrev S8x20000x128 : Shape := ⟨3, ![8, 20000, 128]⟩
abbrev S8x20000 : Shape := ⟨2, ![8, 20000]⟩
abbrev S8x20000x1 : Shape := ⟨3, ![8, 20000, 1]⟩
abbrev S8 : Shape := ⟨1, ![8]⟩
abbrev S16 : Shape := ⟨1, ![16]⟩
abbrev S1x16x1 : Shape := ⟨3, ![1, 16, 1]⟩
abbrev S8x16x128 : Shape := ⟨3, ![8, 16, 128]⟩
abbrev S8x1 : Shape := ⟨2, ![8, 1]⟩
abbrev S8x2 : Shape := ⟨2, ![8, 2]⟩
abbrev S8x128 : Shape := ⟨2, ![8, 128]⟩
abbrev S8x1x128 : Shape := ⟨3, ![8, 1, 128]⟩

abbrev nBuf : Space → Nat
  | .hbm => 98
  | .vmem => 0
  | .smem => 0
  | _ => 0

abbrev bufTy : (tb : Table) → Fin (tcTables nBuf tb) → BufTy
  | .hbm, ⟨0, _⟩ => ⟨S_, .i32⟩
  | .hbm, ⟨1, _⟩ => ⟨S8x20000x128, .f32⟩
  | .hbm, ⟨2, _⟩ => ⟨S8x20000x128, .f32⟩
  | .hbm, ⟨3, _⟩ => ⟨S_, .f32⟩
  | .hbm, ⟨4, _⟩ => ⟨S8x20000, .f32⟩
  | .hbm, ⟨5, _⟩ => ⟨S8x20000x1, .f32⟩
  | .hbm, ⟨6, _⟩ => ⟨S8x20000x1, .f32⟩
  | .hbm, ⟨7, _⟩ => ⟨S_, .f32⟩
  | .hbm, ⟨8, _⟩ => ⟨S8x20000x1, .f32⟩
  | .hbm, ⟨9, _⟩ => ⟨S8x20000x1, .f32⟩
  | .hbm, ⟨10, _⟩ => ⟨S8x20000x128, .f32⟩
  | .hbm, ⟨11, _⟩ => ⟨S8x20000x128, .f32⟩
  | .hbm, ⟨12, _⟩ => ⟨S8x20000x128, .f32⟩
  | .hbm, ⟨13, _⟩ => ⟨S_, .f32⟩
  | .hbm, ⟨14, _⟩ => ⟨S8x20000, .f32⟩
  | .hbm, ⟨15, _⟩ => ⟨S8x20000, .f32⟩
  | .hbm, ⟨16, _⟩ => ⟨S_, .f32⟩
  | .hbm, ⟨17, _⟩ => ⟨S8x20000, .f32⟩
  | .hbm, ⟨18, _⟩ => ⟨S8, .i32⟩
  | .hbm, ⟨19, _⟩ => ⟨S16, .i32⟩
  | .hbm, ⟨20, _⟩ => ⟨S1x16x1, .i32⟩
  | .hbm, ⟨21, _⟩ => ⟨S_, .f32⟩
  | .hbm, ⟨22, _⟩ => ⟨S8x16x128, .f32⟩
  | .hbm, ⟨23, _⟩ => ⟨S_, .i32⟩
  | .hbm, ⟨24, _⟩ => ⟨S_, .i32⟩
  | .hbm, ⟨25, _⟩ => ⟨S8x20000, .f32⟩
  | .hbm, ⟨26, _⟩ => ⟨S8, .i32⟩
  | .hbm, ⟨27, _⟩ => ⟨S8x20000x128, .f32⟩
  | .hbm, ⟨28, _⟩ => ⟨S8x20000x128, .f32⟩
  | .hbm, ⟨29, _⟩ => ⟨S1x16x1, .i32⟩
  | .hbm, ⟨30, _⟩ => ⟨S_, .i32⟩
  | .hbm, ⟨31, _⟩ => ⟨S_, .i32⟩
  | .hbm, ⟨32, _⟩ => ⟨S8x20000, .f32⟩
  | .hbm, ⟨33, _⟩ => ⟨S8x16x128, .f32⟩
  | .hbm, ⟨34, _⟩ => ⟨S_, .i32⟩
  | .hbm, ⟨35, _⟩ => ⟨S_, .i1⟩
  | .hbm, ⟨36, _⟩ => ⟨S_, .i32⟩
  | .hbm, ⟨37, _⟩ => ⟨S_, .i32⟩
  | .hbm, ⟨38, _⟩ => ⟨S8x20000, .f32⟩
  | .hbm, ⟨39, _⟩ => ⟨S8x20000, .i32⟩
  | .hbm, ⟨40, _⟩ => ⟨S_, .f32⟩
  | .hbm, ⟨41, _⟩ => ⟨S_, .i32⟩
  | .hbm, ⟨42, _⟩ => ⟨S8, .f32⟩
  | .hbm, ⟨43, _⟩ => ⟨S8, .i32⟩
  | .hbm, ⟨44, _⟩ => ⟨S_, .i32⟩
  | .hbm, ⟨45, _⟩ => ⟨S8, .i32⟩
  | .hbm, ⟨46, _⟩ => ⟨S8, .i1⟩
  | .hbm, ⟨47, _⟩ => ⟨S_, .i32⟩
  | .hbm, ⟨48, _⟩ => ⟨S8, .i32⟩
  | .hbm, ⟨49, _⟩ => ⟨S8, .i32⟩
  | .hbm, ⟨50, _⟩ => ⟨S8, .i32⟩
  | .hbm, ⟨51, _⟩ => ⟨S_, .i32⟩
  | .hbm, ⟨52, _⟩ => ⟨S8, .i32⟩
  | .hbm, ⟨53, _⟩ => ⟨S8, .i1⟩
  | .hbm, ⟨54, _⟩ => ⟨S_, .i32⟩
  | .hbm, ⟨55, _⟩ => ⟨S8, .i32⟩
  | .hbm, ⟨56, _⟩ => ⟨S8, .i32⟩
  | .hbm, ⟨57, _⟩ => ⟨S8, .i32⟩
  | .hbm, ⟨58, _⟩ => ⟨S8x1, .i32⟩
  | .hbm, ⟨59, _⟩ => ⟨S8x1, .i32⟩
  | .hbm, ⟨60, _⟩ => ⟨S8x2, .i32⟩
  | .hbm, ⟨61, _⟩ => ⟨S8x128, .f32⟩
  | .hbm, ⟨62, _⟩ => ⟨S8x128, .f32⟩
  | .hbm, ⟨63, _⟩ => ⟨S_, .f32⟩
  | .hbm, ⟨64, _⟩ => ⟨S8, .f32⟩
  | .hbm, ⟨65, _⟩ => ⟨S8x1, .f32⟩
  | .hbm, ⟨66, _⟩ => ⟨S8x1, .f32⟩
  | .hbm, ⟨67, _⟩ => ⟨S_, .f32⟩
  | .hbm, ⟨68, _⟩ => ⟨S8x1, .f32⟩
  | .hbm, ⟨69, _⟩ => ⟨S8x1, .f32⟩
  | .hbm, ⟨70, _⟩ => ⟨S8x128, .f32⟩
  | .hbm, ⟨71, _⟩ => ⟨S8x128, .f32⟩
  | .hbm, ⟨72, _⟩ => ⟨S8x1x128, .f32⟩
  | .hbm, ⟨73, _⟩ => ⟨S8x20000x128, .f32⟩
  | .hbm, ⟨74, _⟩ => ⟨S8x20000x128, .f32⟩
  | .hbm, ⟨75, _⟩ => ⟨S_, .f32⟩
  | .hbm, ⟨76, _⟩ => ⟨S8x20000, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S8x20000, .f32⟩
  | .hbm, ⟨81, _⟩ => ⟨S8x20000, .f32⟩
  | .hbm, ⟨82, _⟩ => ⟨S_, .f32⟩
  | .hbm, ⟨83, _⟩ => ⟨S8x20000, .f32⟩
  | .hbm, ⟨84, _⟩ => ⟨S8x20000, .f32⟩
  | .hbm, ⟨85, _⟩ => ⟨S_, .f32⟩
  | .hbm, ⟨86, _⟩ => ⟨S8x20000, .f32⟩
  | .hbm, ⟨87, _⟩ => ⟨S8x20000, .f32⟩
  | .hbm, ⟨88, _⟩ => ⟨S_, .i32⟩
  | .hbm, ⟨89, _⟩ => ⟨S1x16x1, .i32⟩
  | .hbm, ⟨90, _⟩ => ⟨S1x16x1, .i1⟩
  | .hbm, ⟨91, _⟩ => ⟨S8x1x128, .f32⟩
  | .hbm, ⟨92, _⟩ => ⟨S8x16x128, .i1⟩
  | .hbm, ⟨93, _⟩ => ⟨S8x16x128, .f32⟩
  | .hbm, ⟨94, _⟩ => ⟨S8x16x128, .f32⟩
  | .hbm, ⟨95, _⟩ => ⟨S8x20000, .f32⟩
  | .hbm, ⟨96, _⟩ => ⟨S_, .i32⟩
  | .hbm, ⟨97, _⟩ => ⟨S_, .i32⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_c : Ref sig .tc := ⟨.hbm, 23, rfl⟩
abbrev main_c_2 : Ref sig .tc := ⟨.hbm, 24, rfl⟩
abbrev main_v11_0 : Ref sig .tc := ⟨.hbm, 25, rfl⟩
abbrev main_v11_1 : Ref sig .tc := ⟨.hbm, 26, rfl⟩
abbrev main_v11_2 : Ref sig .tc := ⟨.hbm, 27, rfl⟩
abbrev main_v11_3 : Ref sig .tc := ⟨.hbm, 28, rfl⟩
abbrev main_v11_4 : Ref sig .tc := ⟨.hbm, 29, rfl⟩
abbrev main_v11_5 : Ref sig .tc := ⟨.hbm, 30, rfl⟩
abbrev main_v11_6 : Ref sig .tc := ⟨.hbm, 31, rfl⟩
abbrev main_v11_7 : Ref sig .tc := ⟨.hbm, 32, rfl⟩
abbrev main_v11_8 : Ref sig .tc := ⟨.hbm, 33, rfl⟩
abbrev main_while0c_c_11 : Ref sig .tc := ⟨.hbm, 34, rfl⟩
abbrev main_while0c_v12 : Ref sig .tc := ⟨.hbm, 35, rfl⟩
abbrev main_while0b_c_11 : Ref sig .tc := ⟨.hbm, 36, rfl⟩
abbrev main_while0b_v12 : Ref sig .tc := ⟨.hbm, 37, rfl⟩
abbrev main_while0b_v13 : Ref sig .tc := ⟨.hbm, 38, rfl⟩
abbrev main_while0b_call2_v0 : Ref sig .tc := ⟨.hbm, 39, rfl⟩
abbrev main_while0b_call2_cst : Ref sig .tc := ⟨.hbm, 40, rfl⟩
abbrev main_while0b_call2_c : Ref sig .tc := ⟨.hbm, 41, rfl⟩
abbrev main_while0b_call2_v1_0 : Ref sig .tc := ⟨.hbm, 42, rfl⟩
abbrev main_while0b_v14 : Ref sig .tc := ⟨.hbm, 43, rfl⟩
abbrev main_while0b_c_12 : Ref sig .tc := ⟨.hbm, 44, rfl⟩
abbrev main_while0b_v15 : Ref sig .tc := ⟨.hbm, 45, rfl⟩
abbrev main_while0b_v16 : Ref sig .tc := ⟨.hbm, 46, rfl⟩
abbrev main_while0b_c_13 : Ref sig .tc := ⟨.hbm, 47, rfl⟩
abbrev main_while0b_v17 : Ref sig .tc := ⟨.hbm, 48, rfl⟩
abbrev main_while0b_v18 : Ref sig .tc := ⟨.hbm, 49, rfl⟩
abbrev main_while0b_v19 : Ref sig .tc := ⟨.hbm, 50, rfl⟩
abbrev main_while0b_c_14 : Ref sig .tc := ⟨.hbm, 51, rfl⟩
abbrev main_while0b_v20 : Ref sig .tc := ⟨.hbm, 52, rfl⟩
abbrev main_while0b_v21 : Ref sig .tc := ⟨.hbm, 53, rfl⟩
abbrev main_while0b_c_15 : Ref sig .tc := ⟨.hbm, 54, rfl⟩
abbrev main_while0b_v22 : Ref sig .tc := ⟨.hbm, 55, rfl⟩
abbrev main_while0b_v23 : Ref sig .tc := ⟨.hbm, 56, rfl⟩
abbrev main_while0b_v24 : Ref sig .tc := ⟨.hbm, 57, rfl⟩
abbrev main_while0b_v25 : Ref sig .tc := ⟨.hbm, 58, rfl⟩
abbrev main_while0b_v26 : Ref sig .tc := ⟨.hbm, 59, rfl⟩
abbrev main_while0b_v27 : Ref sig .tc := ⟨.hbm, 60, rfl⟩
abbrev main_while0b_v28 : Ref sig .tc := ⟨.hbm, 61, rfl⟩
abbrev main_while0b_call3_v0 : Ref sig .tc := ⟨.hbm, 62, rfl⟩
abbrev main_while0b_call3_cst : Ref sig .tc := ⟨.hbm, 63, rfl⟩
abbrev main_while0b_call3_v1 : Ref sig .tc := ⟨.hbm, 64, rfl⟩
abbrev main_while0b_call3_v2 : Ref sig .tc := ⟨.hbm, 65, rfl⟩
abbrev main_while0b_v29 : Ref sig .tc := ⟨.hbm, 66, rfl⟩
abbrev main_while0b_cst_16 : Ref sig .tc := ⟨.hbm, 67, rfl⟩
abbrev main_while0b_v30 : Ref sig .tc := ⟨.hbm, 68, rfl⟩
abbrev main_while0b_v31 : Ref sig .tc := ⟨.hbm, 69, rfl⟩
abbrev main_while0b_v32 : Ref sig .tc := ⟨.hbm, 70, rfl⟩
abbrev main_while0b_v33 : Ref sig .tc := ⟨.hbm, 71, rfl⟩
abbrev main_while0b_v34 : Ref sig .tc := ⟨.hbm, 72, rfl⟩
abbrev main_while0b_v35 : Ref sig .tc := ⟨.hbm, 73, rfl⟩
abbrev main_while0b_v36 : Ref sig .tc := ⟨.hbm, 74, rfl⟩
abbrev main_while0b_cst_17 : Ref sig .tc := ⟨.hbm, 75, rfl⟩
abbrev main_while0b_v37 : Ref sig .tc := ⟨.hbm, 76, rfl⟩
abbrev main_while0b_cst_18 : Ref sig .tc := ⟨.hbm, 77, rfl⟩
abbrev main_while0b_cst_19 : Ref sig .tc := ⟨.hbm, 78, rfl⟩
abbrev main_while0b_call4_v0 : Ref sig .tc := ⟨.hbm, 79, rfl⟩
abbrev main_while0b_call4_v1 : Ref sig .tc := ⟨.hbm, 80, rfl⟩
abbrev main_while0b_call4_v2 : Ref sig .tc := ⟨.hbm, 81, rfl⟩
abbrev main_while0b_call4_v3 : Ref sig .tc := ⟨.hbm, 82, rfl⟩
abbrev main_while0b_call4_v4 : Ref sig .tc := ⟨.hbm, 83, rfl⟩
abbrev main_while0b_v38 : Ref sig .tc := ⟨.hbm, 84, rfl⟩
abbrev main_while0b_cst_20 : Ref sig .tc := ⟨.hbm, 85, rfl⟩
abbrev main_while0b_v39 : Ref sig .tc := ⟨.hbm, 86, rfl⟩
abbrev main_while0b_v40 : Ref sig .tc := ⟨.hbm, 87, rfl⟩
abbrev main_while0b_v41 : Ref sig .tc := ⟨.hbm, 88, rfl⟩
abbrev main_while0b_v42 : Ref sig .tc := ⟨.hbm, 89, rfl⟩
abbrev main_while0b_v43 : Ref sig .tc := ⟨.hbm, 90, rfl⟩
abbrev main_while0b_v44 : Ref sig .tc := ⟨.hbm, 91, rfl⟩
abbrev main_while0b_call5_v0 : Ref sig .tc := ⟨.hbm, 92, rfl⟩
abbrev main_while0b_call5_v1 : Ref sig .tc := ⟨.hbm, 93, rfl⟩
abbrev main_while0b_v45 : Ref sig .tc := ⟨.hbm, 94, rfl⟩
abbrev main_while0b_v46 : Ref sig .tc := ⟨.hbm, 95, rfl⟩
abbrev main_while0b_c_21 : Ref sig .tc := ⟨.hbm, 96, rfl⟩
abbrev main_while0b_v47 : Ref sig .tc := ⟨.hbm, 97, rfl⟩

abbrev nD : Nat := 1
abbrev τ : Topo := Topo.v7x

variable {F : FTy → Type} [FloatOps F]

abbrev main_while0_count : Scf.Loop 32 := ⟨0#32, 16#32, 1#32⟩
-- ==== Proof.Prog.lean ====
module

public import proofs.«01_k».proof.Proof.Gen.KernelIdeal.Skeleton
public import Idealize.ShloMosaic.Lib.Tactic

@[expose] public section

set_option maxRecDepth 16384

noncomputable section

/-! The kernel's straight-line stretches, written with counters: the preparation in eight chunks, the refill in sixteen
rounds of eight picks, the similarities in eight chunks. -/

namespace Cert.KernelIdeal.Sel

open Idealize.ShloMosaic Idealize.SL.Sem Cert.KernelIdeal.Gen

variable {F : FTy → Type} [FloatOps F]

/-! ## Rectangles -/

theorem inb_row (k : ℕ) (h : k < 128) : ∀ a, (![k, 0] : Fin 2 → ℕ) a + S1x128.size a ≤ S128x128.size a := by
  intro a; match a with
  | ⟨0, _⟩ => show k + 1 ≤ 128; omega
  | ⟨1, _⟩ => show 0 + 128 ≤ 128; omega

theorem inb_col (k : ℕ) (h : k < 16) : ∀ a, (![8 * k, 0] : Fin 2 → ℕ) a + S8x1.size a ≤ S128x1.size a := by
  intro a; match a with
  | ⟨0, _⟩ => show 8 * k + 8 ≤ 128; omega
  | ⟨1, _⟩ => show 0 + 1 ≤ 1; omega

theorem inb_feat (k : ℕ) (h : k < 8) : ∀ a, (![0, 2500 * k, 0] : Fin 3 → ℕ) a + S1x2500x128.size a ≤ S1x20000x128.size a := by
  intro a; match a with
  | ⟨0, _⟩ => show 0 + 1 ≤ 1; omega
  | ⟨1, _⟩ => show 2500 * k + 2500 ≤ 20000; omega
  | ⟨2, _⟩ => show 0 + 128 ≤ 128; omega

theorem inb_sal (k : ℕ) (h : k < 8) : ∀ a, (![k, 0] : Fin 2 → ℕ) a + S1x2500.size a ≤ S8x2500.size a := by
  intro a; match a with
  | ⟨0, _⟩ => show k + 1 ≤ 8; omega
  | ⟨1, _⟩ => show 0 + 2500 ≤ 2500; omega

theorem inb_unit (k : ℕ) (h : k < 8) : ∀ a, (![2500 * k, 0] : Fin 2 → ℕ) a + S2500x128.size a ≤ S20000x128.size a := by
  intro a; match a with
  | ⟨0, _⟩ => show 2500 * k + 2500 ≤ 20000; omega
  | ⟨1, _⟩ => show 0 + 128 ≤ 128; omega

theorem inb_sim (k : ℕ) (h : k < 8) : ∀ a, (![k, 0, 0] : Fin 3 → ℕ) a + S1x128x2500.size a ≤ S8x128x2500.size a := by
  intro a; match a with
  | ⟨0, _⟩ => show k + 1 ≤ 8; omega
  | ⟨1, _⟩ => show 0 + 128 ≤ 128; omega
  | ⟨2, _⟩ => show 0 + 2500 ≤ 2500; omega

/-- Row `k` of the candidates. -/
def rowR (k : ℕ) (h : k < 128) : Rect S128x128 := Rect.unit (s := S128x128) ![k, 0] S1x128.size (inb_row k h)
/-- Eight candidate indices. -/
def colR (k : ℕ) (h : k < 16) : Rect S128x1 := Rect.unit (s := S128x1) ![8 * k, 0] S8x1.size (inb_col k h)
/-- A chunk of the features. -/
def featR (k : ℕ) (h : k < 8) : Rect S1x20000x128 := Rect.unit (s := S1x20000x128) ![0, 2500 * k, 0] S1x2500x128.size (inb_feat k h)
/-- A chunk's saliencies. -/
def salR (k : ℕ) (h : k < 8) : Rect S8x2500 := Rect.unit (s := S8x2500) ![k, 0] S1x2500.size (inb_sal k h)
/-- A chunk of the unit rows. -/
def unitR (k : ℕ) (h : k < 8) : Rect S20000x128 := Rect.unit (s := S20000x128) ![2500 * k, 0] S2500x128.size (inb_unit k h)
/-- A chunk's similarities. -/
def simR (k : ℕ) (h : k < 8) : Rect S8x128x2500 := Rect.unit (s := S8x128x2500) ![k, 0, 0] S1x128x2500.size (inb_sim k h)

theorem packed_unit : ∀ (k : ℕ) (h : k < 8), (unitR k h).PackedRows (EltTy.packing .bf16)
  | 0, _ => Facts₀.packedbf16_S20000x128_S2500x128_0_0
  | 1, _ => Facts₀.packedbf16_S20000x128_S2500x128_2500_0
  | 2, _ => Facts₀.packedbf16_S20000x128_S2500x128_5000_0
  | 3, _ => Facts₀.packedbf16_S20000x128_S2500x128_7500_0
  | 4, _ => Facts₀.packedbf16_S20000x128_S2500x128_10000_0
  | 5, _ => Facts₀.packedbf16_S20000x128_S2500x128_12500_0
  | 6, _ => Facts₀.packedbf16_S20000x128_S2500x128_15000_0
  | 7, _ => Facts₀.packedbf16_S20000x128_S2500x128_17500_0
  | n + 8, h => absurd h (by omega)

/-! ## The refill -/

/-- The index in row `s` of eight. -/
def entry (v275 gi : IVec S8x1 32) (s : ℕ) : BitVec 32 :=
  extractAt ![0, 0, 0]
    (shapeCast S1x1x1
      (multiReductionI .add [1, 2] S1
        (shapeCast S1x8x1
          (select (cmpi .eq v275 (broadcast S8x1 (BitVec.ofNat 32 s))) gi (broadcast S8x1 0#32)) Facts₀.shapeCasts_S8x1_S1x8x1)
        0#32 Facts₀.reduces_S1x8x1_S1 rfl) Facts₀.shapeCasts_S1_S1x1x1) Facts₀.inpos_S1x1x1_p0_0_0

/-- Copy one chosen row into the candidates. -/
def pick (arg1 : Memref sig .tc .vmem S1x20000x128 .f32) (arg7 : Memref sig .tc .vmem S128x128 .f32)
    (v300 : BitVec 1) (h2 : k0_cond2 v300 = 1#1) (k : ℕ) (hk : k < 128) (v : BitVec 32) :
    Prog (TpuEff nD τ sig (Elt F) (Λ₀ F) .tc) PUnit := do
  have hw : k0_chk3 v300 v := (← Prog.lift (TpuEff.assume (k0_chk3 v300 v) (k0_chk3.dec v300 v))).down
  let x : Vec F S1x1x128 .f32 ← Prog.lift (.load arg1 (Rect.unit (s := S1x20000x128) (k0_off4 v) S1x1x128.size (k0_off4_inb v300 v hw h2)).toLoadRect (View.loadsAt_vmem Facts₀.h_S1x1x128))
  let _ : Vec F S1x128 .f32 ← Prog.lift (.load arg7 (rowR k hk).toLoadRect (View.loadsAt_vmem Facts₀.h_S1x128))
  Prog.lift (.store arg7 (rowR k hk) (k0_pay79 x) Finset.univ (View.stores_vmem_bits_univ Facts₀.h_S1x128 rfl) (.inl rfl))

/-- The picks of one round, from the `s`-th on. -/
def picks (arg1 : Memref sig .tc .vmem S1x20000x128 .f32) (arg7 : Memref sig .tc .vmem S128x128 .f32)
    (v300 : BitVec 1) (h2 : k0_cond2 v300 = 1#1) (v275 gi : IVec S8x1 32) (it : ℕ) (hit : it < 16) :
    (l s : ℕ) → s + l ≤ 8 → Prog (TpuEff nD τ sig (Elt F) (Λ₀ F) .tc) PUnit
  | 0, _, _ => pure ⟨⟩
  | l + 1, s, h => do
    pick arg1 arg7 v300 h2 (8 * it + s) (by omega) (entry v275 gi s)
    picks arg1 arg7 v300 h2 v275 gi it hit l (s + 1) (by omega)

/-- The rounds of a refill, from round `it` on. -/
def iters (arg8 : Memref sig .tc .vmem S128x1 .i32) (arg1 : Memref sig .tc .vmem S1x20000x128 .f32)
    (arg7 : Memref sig .tc .vmem S128x128 .f32) (v300 : BitVec 1) (h2 : k0_cond2 v300 = 1#1)
    (v266 : IVec S8x2500 32) (v275 : IVec S8x1 32) :
    (l it : ℕ) → it + l ≤ 16 → Vec F S8x2500 .f32 → Prog (TpuEff nD τ sig (Elt F) (Λ₀ F) .tc) PUnit
  | 0, _, _, _ => pure ⟨⟩
  | l + 1, it, h, ms => do
    let _ : Vec F S8x1 .i32 ← Prog.lift (.load arg8 (colR it (by omega)).toLoadRect (View.loadsAt_vmem Facts₀.h_S8x1))
    Prog.lift (.store arg8 (colR it (by omega)) (k0_pay76 v266 v275 ms) Finset.univ (View.stores_vmem_bits_univ Facts₀.h_S8x1 rfl) (.inl rfl))
    picks arg1 arg7 v300 h2 v275 (k0_pay75 v266 v275 ms) it (by omega) 8 0 (by omega)
    iters arg8 arg1 arg7 v300 h2 v266 v275 l (it + 1) (by omega) (k0_pay77 v266 ms)

/-- Similarities of the candidates to the chunks, from chunk `c` on. -/
def sims (arg5 : Memref sig .tc .vmem S8x128x2500 .f32) (arg3 arg4 : Memref sig .tc .vmem S20000x128 .bf16)
    (cc : FVec F S256x128 .bf16) :
    (l c : ℕ) → c + l ≤ 8 → Prog (TpuEff nD τ sig (Elt F) (Λ₀ F) .tc) PUnit
  | 0, _, _ => pure ⟨⟩
  | l + 1, c, h => do
    let x : Vec F S2500x128 .bf16 ← Prog.lift (.load arg3 (unitR c (by omega)).toLoadRect (View.loadsAt_vmem Facts₀.h_S2500x128))
    let y : Vec F S2500x128 .bf16 ← Prog.lift (.load arg4 (unitR c (by omega)).toLoadRect (View.loadsAt_vmem Facts₀.h_S2500x128))
    let _ : Vec F S1x128x2500 .f32 ← Prog.lift (.load arg5 (simR c (by omega)).toLoadRect (View.loadsAt_vmem Facts₀.h_S1x128x2500))
    Prog.lift (.store arg5 (simR c (by omega)) (k0_pay8 cc x y) Finset.univ (View.stores_vmem_bits_univ Facts₀.h_S1x128x2500 rfl) (.inl rfl))
    sims arg5 arg3 arg4 cc l (c + 1) (by omega)

/-- A refill up to the seventh chunk's similarities. -/
def refillHead (arg6 : Memref sig .tc .vmem S8x2500 .f32) (arg8 : Memref sig .tc .vmem S128x1 .i32)
    (arg5 : Memref sig .tc .vmem S8x128x2500 .f32) (arg1 : Memref sig .tc .vmem S1x20000x128 .f32)
    (v266 : IVec S8x2500 32) (v275 : IVec S8x1 32) (arg7 : Memref sig .tc .vmem S128x128 .f32)
    (arg3 arg4 : Memref sig .tc .vmem S20000x128 .bf16) (v300 : BitVec 1) (h2 : k0_cond2 v300 = 1#1) :
    Prog (TpuEff nD τ sig (Elt F) (Λ₀ F) .tc)
      (Σ' (v2410 : FVec F S256x128 .bf16) (v2501 : Vec F S2500x128 .bf16) (v2502 : Vec F S2500x128 .bf16), FVec F S256x2500 .f32) := do
  let ms : Vec F S8x2500 .f32 ← Prog.lift (.load arg6 (Rect.unit (s := S8x2500) ![0, 0] S8x2500.size Facts₀.inb_S8x2500_S8x2500_0_0).toLoadRect (View.loadsAt_vmem Facts₀.h_S8x2500))
  iters arg8 arg1 arg7 v300 h2 v266 v275 16 0 (by omega) ms
  let cf : Vec F S128x128 .f32 ← Prog.lift (.load arg7 (Rect.unit (s := S128x128) ![0, 0] S128x128.size Facts₀.inb_S128x128_S128x128_0_0).toLoadRect (View.loadsAt_vmem Facts₀.h_S128x128))
  sims arg5 arg3 arg4 (k0_pay416 cf) 6 0 (by omega)
  let x : Vec F S2500x128 .bf16 ← Prog.lift (.load arg3 (unitR 6 (by omega)).toLoadRect (View.loadsAt_vmem Facts₀.h_S2500x128))
  let y : Vec F S2500x128 .bf16 ← Prog.lift (.load arg4 (unitR 6 (by omega)).toLoadRect (View.loadsAt_vmem Facts₀.h_S2500x128))
  pure ⟨k0_pay416 cf, x, y, constant S256x2500 .f32 0x00000000#32⟩

/-! ## The preparation -/

/-- The preparation's chunks, from chunk `c` on. -/
def chunks (arg1 : Memref sig .tc .vmem S1x20000x128 .f32) (arg3 : Memref sig .tc .vmem S20000x128 .bf16) (harg3 : arg3.IsWhole)
    (arg4 : Memref sig .tc .vmem S20000x128 .bf16) (harg4 : arg4.IsWhole) (arg6 : Memref sig .tc .vmem S8x2500 .f32) :
    (l c : ℕ) → c + l ≤ 8 → Prog (TpuEff nD τ sig (Elt F) (Λ₀ F) .tc) PUnit
  | 0, _, _ => pure ⟨⟩
  | l + 1, c, h => do
    let x : Vec F S1x2500x128 .f32 ← Prog.lift (.load arg1 (featR c (by omega)).toLoadRect (View.loadsAt_vmem Facts₀.h_S1x2500x128))
    let _ : Vec F S1x2500 .f32 ← Prog.lift (.load arg6 (salR c (by omega)).toLoadRect (View.loadsAt_vmem Facts₀.h_S1x2500))
    Prog.lift (.store arg6 (salR c (by omega)) (k0_pay12 x) Finset.univ (View.stores_vmem_bits_univ Facts₀.h_S1x2500 rfl) (.inl rfl))
    let _ : Vec F S2500x128 .bf16 ← Prog.lift (.load arg3 (unitR c (by omega)).toLoadRect (View.loadsAt_vmem Facts₀.h_S2500x128))
    Prog.lift (.store arg3 (unitR c (by omega)) (k0_pay15 x) Finset.univ (View.stores_vmem Facts₀.h_S2500x128 (harg3.storeExact_slice rfl _ (packed_unit c (by omega))) (fun _ => rfl)) (.inl rfl))
    let _ : Vec F S2500x128 .bf16 ← Prog.lift (.load arg4 (unitR c (by omega)).toLoadRect (View.loadsAt_vmem Facts₀.h_S2500x128))
    Prog.lift (.store arg4 (unitR c (by omega)) (k0_pay16 x) Finset.univ (View.stores_vmem Facts₀.h_S2500x128 (harg4.storeExact_slice rfl _ (packed_unit c (by omega))) (fun _ => rfl)) (.inl rfl))
    chunks arg1 arg3 harg3 arg4 harg4 arg6 l (c + 1) (by omega)

/-- The kernel's body: the preparation, then the loop. -/
def body (i : grid0.Coords) (arg1 : Memref sig .tc .vmem S1x20000x128 .f32) (harg1 : arg1.IsWhole) (arg2 : Memref sig .tc .vmem S1x16x128 .f32) (harg2 : arg2.IsWhole) (arg3 : Memref sig .tc .vmem S20000x128 .bf16) (harg3 : arg3.IsWhole) (arg4 : Memref sig .tc .vmem S20000x128 .bf16) (harg4 : arg4.IsWhole) (arg5 : Memref sig .tc .vmem S8x128x2500 .f32) (harg5 : arg5.IsWhole) (arg6 : Memref sig .tc .vmem S8x2500 .f32) (harg6 : arg6.IsWhole) (arg7 : Memref sig .tc .vmem S128x128 .f32) (harg7 : arg7.IsWhole) (arg8 : Memref sig .tc .vmem S128x1 .i32) (harg8 : arg8.IsWhole) :
    Prog (TpuEff nD τ sig (Elt F) (Λ₀ F) .tc) PUnit := do
  chunks arg1 arg3 harg3 arg4 harg4 arg6 8 0 (by omega)
  let _ : Vec F S128x1 .i32 ← Prog.lift (.load arg8 (Rect.unit (s := S128x1) ![0, 0] S128x1.size Facts₀.inb_S128x1_S128x1_0_0).toLoadRect (View.loadsAt_vmem Facts₀.h_S128x1))
  Prog.lift (.store arg8 (Rect.unit (s := S128x1) ![0, 0] S128x1.size Facts₀.inb_S128x1_S128x1_0_0) k0_pay73 Finset.univ (View.stores_vmem_bits_univ Facts₀.h_S128x1 rfl) (.inl rfl))
  let _ : BitVec 32 × BitVec 32 ← Prog.lift (.call (1 : (Λ₀ F).Label) ⟨i, arg6, harg6, k0_pay72, arg8, harg8, iota .tc S128x1 32 [0] Facts₀.iota_S128x1_d0_w32, arg5, harg5, arg1, harg1, arg2, harg2, iota .tc S8x2500 32 [1] Facts₀.iota_S8x2500_d1_w32, iota .tc S8x1 32 [0] Facts₀.iota_S8x1_d0_w32, arg7, harg7, arg3, harg3, arg4, harg4, 0#32, 0#32⟩)
  pure ⟨⟩

theorem refill_eq (i : grid0.Coords) (arg6 : Memref sig .tc .vmem S8x2500 .f32) (harg6 : arg6.IsWhole) (v269 : IVec S8x2500 32) (arg8 : Memref sig .tc .vmem S128x1 .i32) (harg8 : arg8.IsWhole) (v270 : IVec S128x1 32) (arg5 : Memref sig .tc .vmem S8x128x2500 .f32) (harg5 : arg5.IsWhole) (arg1 : Memref sig .tc .vmem S1x20000x128 .f32) (harg1 : arg1.IsWhole) (arg2 : Memref sig .tc .vmem S1x16x128 .f32) (harg2 : arg2.IsWhole) (v266 : IVec S8x2500 32) (v275 : IVec S8x1 32) (arg7 : Memref sig .tc .vmem S128x128 .f32) (harg7 : arg7.IsWhole) (arg3 : Memref sig .tc .vmem S20000x128 .bf16) (harg3 : arg3.IsWhole) (arg4 : Memref sig .tc .vmem S20000x128 .bf16) (harg4 : arg4.IsWhole) (arg9 : BitVec 32) (arg10 : BitVec 32) (v300 : BitVec 1) (k0_h2 : k0_cond2 v300 = 1#1) :
    k0_part67 (F := F) i arg6 harg6 v269 arg8 harg8 v270 arg5 harg5 arg1 harg1 arg2 harg2 v266 v275 arg7 harg7 arg3 harg3 arg4 harg4 arg9 arg10 v300 k0_h2
      = refillHead arg6 arg8 arg5 arg1 v266 v275 arg7 arg3 arg4 v300 k0_h2 := by
  sl_kernel_rfl

theorem body_eq (i : grid0.Coords) (arg1 : Memref sig .tc .vmem S1x20000x128 .f32) (harg1 : arg1.IsWhole) (arg2 : Memref sig .tc .vmem S1x16x128 .f32) (harg2 : arg2.IsWhole) (arg3 : Memref sig .tc .vmem S20000x128 .bf16) (harg3 : arg3.IsWhole) (arg4 : Memref sig .tc .vmem S20000x128 .bf16) (harg4 : arg4.IsWhole) (arg5 : Memref sig .tc .vmem S8x128x2500 .f32) (harg5 : arg5.IsWhole) (arg6 : Memref sig .tc .vmem S8x2500 .f32) (harg6 : arg6.IsWhole) (arg7 : Memref sig .tc .vmem S128x128 .f32) (harg7 : arg7.IsWhole) (arg8 : Memref sig .tc .vmem S128x1 .i32) (harg8 : arg8.IsWhole) :
    cc0__body (F := F) i arg1 harg1 arg2 harg2 arg3 harg3 arg4 harg4 arg5 harg5 arg6 harg6 arg7 harg7 arg8 harg8
      = body i arg1 harg1 arg2 harg2 arg3 harg3 arg4 harg4 arg5 harg5 arg6 harg6 arg7 harg7 arg8 harg8 := by
  sl_kernel_rfl

end Cert.KernelIdeal.Sel

end
-- ==== Proof.Own.lean ====
module

public import proofs.«01_k».proof.Proof.Prog
public import proofs.«01_k».proof.Proof.Gen.KernelIdeal
public import Idealize.ShloMosaic.Lib.Pipeline.Sound
public import Idealize.ShloMosaic.Lib.Pipeline.KitQuiescent
public import Idealize.ShloMosaic.Lib.Tactic

@[expose] public section

set_option maxRecDepth 16384

noncomputable section

/-! Loads and stores of a memref owned at its contents, and the resources of the launch. -/

namespace Cert.KernelIdeal.Sel

open Idealize.ShloMosaic TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

/-- The resources: the rounds of the pipeline's cells. -/
abbrev UR : Type := URounds (GSem nD τ sig) Unit

local notation "𝕄" => MT nD τ sig Unit (Elt F) ℕ UR ℕ

variable (c : Thread nD τ) (bd : Option ℕ) {sp : CoreSpace} {s : Shape} {e : EltTy} {α : Type}

/-- A load of an owned memref continues at its contents under the rectangle. -/
theorem own_load {m : Memref sig c.2.kind sp s e} {r : LoadRect s} {hl : m.view.LoadsAt r}
    {k : (r.shape.Idx → Elt F e) → Prog (TpuEff nD τ sig (Elt F) (Λ₀ F) c.2) α} {q : PosShare TreeShare}
    {X : s.Idx → Elt F e} {Q : α → sProp 𝕄} :
    (owns c m q X : sProp 𝕄)
      ⊢ iprop((owns c m q X -∗ wp frame (wpE (defs₀ (F := F)) Variants.nat c bd) Set.univ (k (fun x => X (r.idx x))) Q)
        -∗ wp frame (wpE (defs₀ (F := F)) Variants.nat c bd) Set.univ (.op (.load m r hl) k) Q) := by
  iintro H
  ihave H' := (show owns c m q X ⊢ iprop(∃ g, ⌜m.view.read (Elt F) g = X⌝ ∗ m.view.loc c ↦[m.view.set]{q} g) from .rfl) $$ H
  icases H' with ⟨%g, %hg, H⟩
  iintro Hk
  have hS : m.view.setOn r.set ⊆ m.view.set := Finset.map_subset_map.mpr (Finset.subset_univ _)
  iapply (wp_load Variants.nat c bd Set.univ (m := m) (r := r) (f := g) (q := q) hS) $$ H
  have e1 : m.view.readAt (Elt F) r g = fun x => X (r.idx x) := by
    funext x; rw [View.readAt_apply, hg]
  rw [e1, ← hg]
  iintro H
  iapply Hk
  iapply (owns_intro c m q); iexact H

/-- A store to an owned memref lays the stored values over its contents. -/
theorem own_store {m : Memref sig c.2.kind sp s e} {r : Rect s} {w : r.shape.Idx → Elt F e}
    {hx : (m.access r).Stores Finset.univ} {hm : (Finset.univ : Finset r.shape.Idx) = Finset.univ ∨ ∀ a, r.stride a = 1}
    {k : PUnit → Prog (TpuEff nD τ sig (Elt F) (Λ₀ F) c.2) α} {X : s.Idx → Elt F e} {Q : α → sProp 𝕄} :
    (owns c m fullShare X : sProp 𝕄)
      ⊢ iprop((owns c m fullShare (r.overlay X w) -∗ wp frame (wpE (defs₀ (F := F)) Variants.nat c bd) Set.univ (k ⟨⟩) Q)
        -∗ wp frame (wpE (defs₀ (F := F)) Variants.nat c bd) Set.univ (.op (.store m r w Finset.univ hx hm) k) Q) := by
  iintro H
  ihave H' := (show owns c m fullShare X ⊢ iprop(∃ g, ⌜m.view.read (Elt F) g = X⌝ ∗ m.view.loc c ↦[m.view.set]{fullShare} g) from .rfl) $$ H
  icases H' with ⟨%g, %hg, H⟩
  iintro Hk
  have hS : (m.access r).setOn Finset.univ ⊆ m.view.set := m.view.set_slice_subset r
  iapply (wp_store Variants.nat c bd Set.univ (m := m) (r := r) (w := w) (Mk := Finset.univ) (f := g) hS) $$ H
  have e1 : m.view.read (Elt F) ((m.access r).write (Elt F) g w Finset.univ) = r.overlay X w := by
    funext j
    by_cases hj : j ∈ r.set
    · obtain ⟨i, rfl⟩ := r.exists_idx_of_mem hj
      have h2 := congrFun (View.read_write_univ (v := m.access r) (Val := Elt F) g w) i
      exact h2.trans (Rect.overlay_emb r X w i).symm
    · rw [Rect.overlay_of_not_mem _ _ _ hj, ← hg]
      exact View.read_slice_write_of_not_mem r g w _ (by rw [Rect.map_emb_univ]; exact hj)
  iintro H
  iapply Hk
  rw [← e1]
  iapply (owns_intro c m fullShare); iexact H

end Cert.KernelIdeal.Sel

end
-- ==== Proof.Refill.lean ====
module

public import proofs.«01_k».proof.Proof.Own
public import Idealize.ShloMosaic.Lib.WritesUnit
public import Idealize.ShloMosaic.Lib.Pointwise
public import proofs.«01_k».proof.Proof.Gen.KernelIdeal
public import Idealize.ShloMosaic.Lib.Pipeline.Sound
public import Idealize.ShloMosaic.Lib.Pipeline.KitQuiescent
public import Idealize.ShloMosaic.Lib.Tactic

@[expose] public section

set_option maxRecDepth 16384

noncomputable section

/-! What the refill's stores leave, and the refill's run. -/

namespace Cert.KernelIdeal.Sel

open Idealize.ShloMosaic TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

local notation "𝕄" => MT nD τ sig Unit (Elt F) ℕ UR ℕ

/-! ## Rectangles laid over contents -/

theorem overlay_at {s : Shape} {α : Type} {off size : Fin s.rank → ℕ} {inb : ∀ a, off a + size a ≤ s.size a}
    (X : s.Idx → α) (w : (Rect.unit off size inb).shape.Idx → α) (j : s.Idx) (i : (Rect.unit off size inb).shape.Idx)
    (h : ∀ a, (j a).val = off a + (i a).val) : (Rect.unit off size inb).overlay X w j = w i := by
  have hj : (Rect.unit off size inb).emb i = j := funext fun a => Fin.ext (by
    show off a + 1 * (i a).val = (j a).val
    rw [h a, Nat.one_mul])
  rw [← hj, Rect.overlay_emb]

theorem overlay_off {s : Shape} {α : Type} {off size : Fin s.rank → ℕ} {inb : ∀ a, off a + size a ≤ s.size a}
    (X : s.Idx → α) (w : (Rect.unit off size inb).shape.Idx → α) (j : s.Idx) (a : Fin s.rank)
    (h : (j a).val < off a ∨ off a + size a ≤ (j a).val) : (Rect.unit off size inb).overlay X w j = X j := by
  refine Rect.overlay_of_not_mem _ _ _ ?_
  rw [Rect.mem_set_unit]
  intro hall
  have := hall a
  omega

theorem owns_eq (c : Thread nD τ) {sp : Space} {s : Shape} {e : EltTy} {m : Memref sig c.2.kind sp s e} {X Y : s.Idx → Elt F e} (h : X = Y) :
    (owns c m fullShare X : sProp 𝕄) ⊢ owns c m fullShare Y := by rw [h]

/-- The feature a word names. -/
def pt (v : BitVec 32) : Fin 20000 := Fin.ofNat 20000 v.toNat

theorem pt_val {v : BitVec 32} (h : v.toNat < 20000) : (pt v).val = v.toNat := Nat.mod_eq_of_lt h

/-- The candidates with row `k` replaced. -/
def putRow {α : Type} (cf : S128x128.Idx → α) (k : ℕ) (x : Fin 128 → α) : S128x128.Idx → α :=
  fun j => if (j 0).val = k then x (j 1) else cf j

theorem overlay_row {α : Type} (cf : S128x128.Idx → α) (k : ℕ) (hk : k < 128) (w : (rowR k hk).shape.Idx → α) (x : Fin 128 → α)
    (hw : ∀ d : Fin 128, w (ix2 (0 : Fin 1) d) = x d) : (rowR k hk).overlay cf w = putRow cf k x := by
  funext j
  obtain ⟨j0, j1, rfl⟩ : ∃ (a : Fin 128) (b : Fin 128), j = ix2 a b := ⟨j 0, j 1, eq_ix2 j⟩
  show _ = if j0.val = k then x j1 else _
  by_cases h : j0.val = k
  · rw [if_pos h, ← hw]
    refine overlay_at cf w (ix2 j0 j1) (ix2 (0 : Fin 1) j1) ?_
    intro a; match a with
    | ⟨0, _⟩ => exact h
    | ⟨1, _⟩ => exact (Nat.zero_add _).symm
  · rw [if_neg h]
    refine overlay_off cf w (ix2 j0 j1) 0 ?_
    show j0.val < k ∨ k + 1 ≤ j0.val
    omega

/-- The candidates after the picks `s` up to `s + l` of round `it`. -/
def pickRows {α : Type} (f : S1x20000x128.Idx → α) (v275 gi : IVec S8x1 32) (it s l : ℕ) (cf : S128x128.Idx → α) :
    S128x128.Idx → α :=
  fun j => if 8 * it + s ≤ (j 0).val ∧ (j 0).val < 8 * it + s + l then f (ix3 (0 : Fin 1) (pt (entry v275 gi ((j 0).val - 8 * it))) (j 1)) else cf j

theorem pickRows_zero {α : Type} (f : S1x20000x128.Idx → α) (v275 gi : IVec S8x1 32) (it s : ℕ) (cf : S128x128.Idx → α) :
    pickRows f v275 gi it s 0 cf = cf := by
  funext j; unfold pickRows; rw [if_neg]; omega

theorem pickRows_succ {α : Type} (f : S1x20000x128.Idx → α) (v275 gi : IVec S8x1 32) (it s l : ℕ) (cf : S128x128.Idx → α) :
    pickRows f v275 gi it (s + 1) l (putRow cf (8 * it + s) fun d => f (ix3 (0 : Fin 1) (pt (entry v275 gi s)) d))
      = pickRows f v275 gi it s (l + 1) cf := by
  funext j
  unfold pickRows putRow
  by_cases h : (j 0).val = 8 * it + s
  · rw [if_neg (by omega), if_pos h, if_pos (by omega), show (j 0).val - 8 * it = s by omega]
  · by_cases h2 : 8 * it + (s + 1) ≤ (j 0).val ∧ (j 0).val < 8 * it + (s + 1) + l
    · rw [if_pos h2, if_pos (by omega)]
    · rw [if_neg h2, if_neg h, if_neg (by omega)]

/-- The candidates' indices with eight replaced. -/
def putCol (ix : S128x1.Idx → BitVec 32) (it : ℕ) (w : IVec S8x1 32) : S128x1.Idx → BitVec 32 :=
  fun j => if 8 * it ≤ (j 0).val ∧ (j 0).val < 8 * it + 8 then w (ix2 (Fin.ofNat 8 ((j 0).val - 8 * it)) (0 : Fin 1)) else ix j

theorem overlay_col (ix : S128x1.Idx → BitVec 32) (it : ℕ) (hk : it < 16) (w : IVec S8x1 32) :
    (colR it hk).overlay ix w = putCol ix it w := by
  funext j
  unfold putCol
  have h1 : (j 1).val < 1 := (j 1).isLt
  by_cases h : 8 * it ≤ (j 0).val ∧ (j 0).val < 8 * it + 8
  · rw [if_pos h]
    refine overlay_at ix w j (ix2 (Fin.ofNat 8 ((j 0).val - 8 * it)) (0 : Fin 1)) ?_
    intro a; match a with
    | ⟨0, _⟩ =>
      show (j 0).val = 8 * it + ((j 0).val - 8 * it) % 8
      omega
    | ⟨1, _⟩ =>
      show (j 1).val = 0 + 0
      omega
  · rw [if_neg h]
    refine overlay_off ix w j 0 ?_
    show (j 0).val < 8 * it ∨ 8 * it + 8 ≤ (j 0).val
    omega

/-- The candidates after `l` rounds from round `it` on. -/
def itersCf (f : S1x20000x128.Idx → F .f32) (v266 : IVec S8x2500 32) (v275 : IVec S8x1 32) :
    ℕ → ℕ → (S8x2500.Idx → F .f32) → (S128x128.Idx → F .f32) → S128x128.Idx → F .f32
  | 0, _, _, cf => cf
  | l + 1, it, ms, cf => itersCf f v266 v275 l (it + 1) (k0_pay77 v266 ms) (pickRows f v275 (k0_pay75 v266 v275 ms) it 0 8 cf)

/-- The candidates' indices after `l` rounds from round `it` on. -/
def itersIx (v266 : IVec S8x2500 32) (v275 : IVec S8x1 32) :
    ℕ → ℕ → (S8x2500.Idx → F .f32) → (S128x1.Idx → BitVec 32) → S128x1.Idx → BitVec 32
  | 0, _, _, ix => ix
  | l + 1, it, ms, ix => itersIx v266 v275 l (it + 1) (k0_pay77 v266 ms) (putCol ix it (k0_pay76 v266 v275 ms))

/-! ## The picks and rounds run -/

theorem wp_pick (c : Dev nD) (bd : Option ℕ) (arg1 : Memref sig .tc .vmem S1x20000x128 .f32) (arg7 : Memref sig .tc .vmem S128x128 .f32)
    (v300 : BitVec 1) (h2 : k0_cond2 v300 = 1#1) (k : ℕ) (hk : k < 128) (v : BitVec 32) (hv : v.toNat < 20000)
    (f : S1x20000x128.Idx → F .f32) (cf : S128x128.Idx → F .f32) (K : PUnit → sProp 𝕄) :
    iprop(owns (c : Thread nD τ) arg1 fullShare f ∗ owns (c : Thread nD τ) arg7 fullShare cf
        ∗ (owns (c : Thread nD τ) arg1 fullShare f
            ∗ owns (c : Thread nD τ) arg7 fullShare (putRow cf k fun d => f (ix3 (0 : Fin 1) (pt v) d)) -∗ K ⟨⟩))
      ⊢ wp frame (wpE (defs₀ (F := F)) Variants.nat (c : Thread nD τ) bd) Set.univ (pick (F := F) arg1 arg7 v300 h2 k hk v) K := by
  have hchk : k0_chk3 v300 v := by
    intro _ a
    match a with
    | ⟨0, _⟩ => show 0 + 1 ≤ 1; omega
    | ⟨1, _⟩ => show v.toNat + 1 ≤ 20000; omega
    | ⟨2, _⟩ => show 0 + 128 ≤ 128; omega
  unfold pick
  simp only [Prog.lift, Prog.bind_op, Prog.bind_ret]
  iintro ⟨H1, H7, HK⟩
  iapply (wp_assume Variants.nat (c : Thread nD τ) bd Set.univ hchk)
  iapply (own_load (c : Thread nD τ) bd) $$ H1
  iintro H1
  iapply (own_load (c : Thread nD τ) bd) $$ H7
  iintro H7
  iapply (own_store (c : Thread nD τ) bd) $$ H7
  iintro H7
  rw [wp_ret]; imodintro
  iapply HK
  isplitl [H1]; · iexact H1
  have hw : ∀ d : Fin 128, k0_pay79 (F := F) (fun x => f (((Rect.unit (s := S1x20000x128) (k0_off4 v) S1x1x128.size (k0_off4_inb v300 v hchk h2)).toLoadRect).idx x))
      (ix2 (0 : Fin 1) d) = f (ix3 (0 : Fin 1) (pt v) d) := by
    intro d
    have e : ((Rect.unit (s := S1x20000x128) (k0_off4 v) S1x1x128.size (k0_off4_inb v300 v hchk h2)).toLoadRect).idx (ix3 (0 : Fin 1) (0 : Fin 1) d)
        = ix3 (0 : Fin 1) (pt v) d := by
      funext a; apply Fin.ext
      match a with
      | ⟨0, _⟩ => rfl
      | ⟨1, _⟩ => show v.toNat + 1 * 0 = (pt v).val; rw [pt_val hv]; rfl
      | ⟨2, _⟩ => show 0 + 1 * d.val = d.val; omega
    rw [← e]
    pointwise [k0_pay79]
  iapply (owns_eq (c : Thread nD τ) (overlay_row cf k hk _ (fun d => f (ix3 (0 : Fin 1) (pt v) d)) hw))
  iexact H7

theorem wp_picks (c : Dev nD) (bd : Option ℕ) (arg1 : Memref sig .tc .vmem S1x20000x128 .f32) (arg7 : Memref sig .tc .vmem S128x128 .f32)
    (v300 : BitVec 1) (h2 : k0_cond2 v300 = 1#1) (v275 gi : IVec S8x1 32) (it : ℕ) (hit : it < 16)
    (hgi : ∀ s < 8, (entry v275 gi s).toNat < 20000)
    (f : S1x20000x128.Idx → F .f32) (K : PUnit → sProp 𝕄) : ∀ (l s : ℕ) (h : s + l ≤ 8) (cf : S128x128.Idx → F .f32),
    iprop(owns (c : Thread nD τ) arg1 fullShare f ∗ owns (c : Thread nD τ) arg7 fullShare cf
        ∗ (owns (c : Thread nD τ) arg1 fullShare f
            ∗ owns (c : Thread nD τ) arg7 fullShare (pickRows f v275 gi it s l cf) -∗ K ⟨⟩))
      ⊢ wp frame (wpE (defs₀ (F := F)) Variants.nat (c : Thread nD τ) bd) Set.univ (picks (F := F) arg1 arg7 v300 h2 v275 gi it hit l s h) K
  | 0, s, h, cf => by
    rw [pickRows_zero]
    unfold picks
    rw [wp_pure]
    iintro ⟨H1, H7, HK⟩
    imodintro
    iapply HK
    isplitl [H1]; · iexact H1
    iexact H7
  | l + 1, s, h, cf => by
    unfold picks
    rw [wp_bind]
    iintro ⟨H1, H7, HK⟩
    iapply (wp_pick c bd arg1 arg7 v300 h2 (8 * it + s) _ (entry v275 gi s) (hgi s (by omega)) f cf)
    isplitl [H1]; · iexact H1
    isplitl [H7]; · iexact H7
    iintro ⟨H1, H7⟩
    iapply (wp_picks c bd arg1 arg7 v300 h2 v275 gi it hit hgi f K l (s + 1) _ _)
    isplitl [H1]; · iexact H1
    isplitl [H7]; · iexact H7
    rw [pickRows_succ]
    iexact HK

theorem wp_iters (c : Dev nD) (bd : Option ℕ) (arg8 : Memref sig .tc .vmem S128x1 .i32) (arg1 : Memref sig .tc .vmem S1x20000x128 .f32)
    (arg7 : Memref sig .tc .vmem S128x128 .f32) (v300 : BitVec 1) (h2 : k0_cond2 v300 = 1#1) (v266 : IVec S8x2500 32) (v275 : IVec S8x1 32)
    (hgi : ∀ (ms : S8x2500.Idx → F .f32), ∀ s < 8, (entry v275 (k0_pay75 v266 v275 ms) s).toNat < 20000)
    (f : S1x20000x128.Idx → F .f32) (K : PUnit → sProp 𝕄) :
    ∀ (l it : ℕ) (h : it + l ≤ 16) (ms : S8x2500.Idx → F .f32) (cf : S128x128.Idx → F .f32) (ix : S128x1.Idx → BitVec 32),
    iprop(owns (c : Thread nD τ) arg1 fullShare f ∗ owns (c : Thread nD τ) arg7 fullShare cf
        ∗ owns (c : Thread nD τ) (e := .i32) (Val := Elt F) arg8 fullShare ix
        ∗ (owns (c : Thread nD τ) arg1 fullShare f
            ∗ owns (c : Thread nD τ) arg7 fullShare (itersCf f v266 v275 l it ms cf)
            ∗ owns (c : Thread nD τ) (e := .i32) (Val := Elt F) arg8 fullShare (itersIx v266 v275 l it ms ix) -∗ K ⟨⟩))
      ⊢ wp frame (wpE (defs₀ (F := F)) Variants.nat (c : Thread nD τ) bd) Set.univ (iters (F := F) arg8 arg1 arg7 v300 h2 v266 v275 l it h ms) K
  | 0, it, h, ms, cf, ix => by
    unfold iters
    rw [wp_pure]
    iintro ⟨H1, H7, H8, HK⟩
    imodintro
    iapply HK
    isplitl [H1]; · iexact H1
    isplitl [H7]; · iexact H7
    iexact H8
  | l + 1, it, h, ms, cf, ix => by
    unfold iters
    simp only [Prog.lift, Prog.bind_op, Prog.bind_ret]
    iintro ⟨H1, H7, H8, HK⟩
    iapply (own_load (c : Thread nD τ) bd) $$ H8
    iintro H8
    iapply (own_store (c : Thread nD τ) bd) $$ H8
    iintro H8
    rw [overlay_col ix it (by omega)]
    rw [wp_bind]
    iapply (wp_picks c bd arg1 arg7 v300 h2 v275 _ it _ (hgi ms) f _ 8 0 _ cf)
    isplitl [H1]; · iexact H1
    isplitl [H7]; · iexact H7
    iintro ⟨H1, H7⟩
    iapply (wp_iters c bd arg8 arg1 arg7 v300 h2 v266 v275 hgi f K l (it + 1) _ (k0_pay77 v266 ms) _ _)
    isplitl [H1]; · iexact H1
    isplitl [H7]; · iexact H7
    isplitl [H8]; · iexact H8
    iexact HK

end Cert.KernelIdeal.Sel

end
-- ==== Proof.Chunks.lean ====
module

public import proofs.«01_k».proof.Proof.Refill
public import Idealize.ShloMosaic.Lib.Pointwise
public import proofs.«01_k».proof.Proof.Gen.KernelIdeal
public import Idealize.ShloMosaic.Lib.Pipeline.Sound
public import Idealize.ShloMosaic.Lib.Pipeline.KitQuiescent
public import Idealize.ShloMosaic.Lib.Tactic

@[expose] public section

set_option maxRecDepth 16384

noncomputable section

/-! The chunks: what the similarities' and the preparation's stores leave, and their runs. -/

namespace Cert.KernelIdeal.Sel

open Idealize.ShloMosaic TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

local notation "𝕄" => MT nD τ sig Unit (Elt F) ℕ UR ℕ

/-! ## What the chunks leave -/

/-- A chunk of the unit rows. -/
def rowsOf {α : Type} (u : S20000x128.Idx → α) (c : ℕ) : S2500x128.Idx → α :=
  fun i => u (ix2 (Fin.ofNat 20000 (2500 * c + (i 0).val)) (i 1))

/-- A chunk of the features. -/
def featOf {α : Type} (f : S1x20000x128.Idx → α) (c : ℕ) : S1x2500x128.Idx → α :=
  fun i => f (ix3 (0 : Fin 1) (Fin.ofNat 20000 (2500 * c + (i 1).val)) (i 2))

theorem load_unit {α : Type} (u : S20000x128.Idx → α) (c : ℕ) (h : c < 8) :
    (fun x => u ((unitR c h).toLoadRect.idx x)) = rowsOf u c := by
  funext i
  refine congrArg u (funext fun a => Fin.ext ?_)
  have h0 : (i 0).val < 2500 := (i 0).isLt
  match a with
  | ⟨0, _⟩ =>
    show 2500 * c + 1 * (i 0).val = (2500 * c + (i 0).val) % 20000
    omega
  | ⟨1, _⟩ =>
    show 0 + 1 * (i 1).val = (i 1).val
    omega

theorem load_feat {α : Type} (f : S1x20000x128.Idx → α) (c : ℕ) (h : c < 8) :
    (fun x => f ((featR c h).toLoadRect.idx x)) = featOf f c := by
  funext i
  refine congrArg f (funext fun a => Fin.ext ?_)
  have h0 : (i 1).val < 2500 := (i 1).isLt
  have h1 : (i 0).val < 1 := (i 0).isLt
  match a with
  | ⟨0, _⟩ =>
    show 0 + 1 * (i 0).val = 0
    omega
  | ⟨1, _⟩ =>
    show 2500 * c + 1 * (i 1).val = (2500 * c + (i 1).val) % 20000
    omega
  | ⟨2, _⟩ =>
    show 0 + 1 * (i 2).val = (i 2).val
    omega

/-- The similarities' chunks `c` up to `c + l` replaced. -/
def putSim {α : Type} (g : ℕ → S1x128x2500.Idx → α) (c l : ℕ) (S : S8x128x2500.Idx → α) : S8x128x2500.Idx → α :=
  fun j => if c ≤ (j 0).val ∧ (j 0).val < c + l then g (j 0).val (ix3 (0 : Fin 1) (j 1) (j 2)) else S j

theorem overlay_sim {α : Type} (g : ℕ → S1x128x2500.Idx → α) (c : ℕ) (h : c < 8) (S : S8x128x2500.Idx → α) :
    (simR c h).overlay S (g c) = putSim g c 1 S := by
  funext j
  unfold putSim
  by_cases hj : (j 0).val = c
  · rw [if_pos (by omega), hj]
    refine overlay_at S (g c) j (ix3 (0 : Fin 1) (j 1) (j 2)) ?_
    intro a; match a with
    | ⟨0, _⟩ => exact hj
    | ⟨1, _⟩ => exact (Nat.zero_add _).symm
    | ⟨2, _⟩ => exact (Nat.zero_add _).symm
  · rw [if_neg (by omega)]
    refine overlay_off S (g c) j 0 ?_
    show (j 0).val < c ∨ c + 1 ≤ (j 0).val
    omega

theorem putSim_zero {α : Type} (g : ℕ → S1x128x2500.Idx → α) (c : ℕ) (S : S8x128x2500.Idx → α) : putSim g c 0 S = S := by
  funext j; unfold putSim; rw [if_neg]; omega

theorem putSim_succ {α : Type} (g : ℕ → S1x128x2500.Idx → α) (c l l' : ℕ) (S : S8x128x2500.Idx → α) :
    putSim g (c + l) l' (putSim g c l S) = putSim g c (l + l') S := by
  funext j
  unfold putSim
  by_cases h1 : c + l ≤ (j 0).val ∧ (j 0).val < c + l + l'
  · rw [if_pos h1, if_pos (by omega)]
  · rw [if_neg h1]
    by_cases h2 : c ≤ (j 0).val ∧ (j 0).val < c + l
    · rw [if_pos h2, if_pos (by omega)]
    · rw [if_neg h2, if_neg (by omega)]

/-- The saliencies' chunks `c` up to `c + l` replaced. -/
def putSal {α : Type} (g : ℕ → S1x2500.Idx → α) (c l : ℕ) (S : S8x2500.Idx → α) : S8x2500.Idx → α :=
  fun j => if c ≤ (j 0).val ∧ (j 0).val < c + l then g (j 0).val (ix2 (0 : Fin 1) (j 1)) else S j

theorem overlay_sal {α : Type} (g : ℕ → S1x2500.Idx → α) (c : ℕ) (h : c < 8) (S : S8x2500.Idx → α) :
    (salR c h).overlay S (g c) = putSal g c 1 S := by
  funext j
  unfold putSal
  by_cases hj : (j 0).val = c
  · rw [if_pos (by omega), hj]
    refine overlay_at S (g c) j (ix2 (0 : Fin 1) (j 1)) ?_
    intro a; match a with
    | ⟨0, _⟩ => exact hj
    | ⟨1, _⟩ => exact (Nat.zero_add _).symm
  · rw [if_neg (by omega)]
    refine overlay_off S (g c) j 0 ?_
    show (j 0).val < c ∨ c + 1 ≤ (j 0).val
    omega

theorem putSal_zero {α : Type} (g : ℕ → S1x2500.Idx → α) (c : ℕ) (S : S8x2500.Idx → α) : putSal g c 0 S = S := by
  funext j; unfold putSal; rw [if_neg]; omega

theorem putSal_succ {α : Type} (g : ℕ → S1x2500.Idx → α) (c l l' : ℕ) (S : S8x2500.Idx → α) :
    putSal g (c + l) l' (putSal g c l S) = putSal g c (l + l') S := by
  funext j
  unfold putSal
  by_cases h1 : c + l ≤ (j 0).val ∧ (j 0).val < c + l + l'
  · rw [if_pos h1, if_pos (by omega)]
  · rw [if_neg h1]
    by_cases h2 : c ≤ (j 0).val ∧ (j 0).val < c + l
    · rw [if_pos h2, if_pos (by omega)]
    · rw [if_neg h2, if_neg (by omega)]

/-- The unit rows' chunks `c` up to `c + l` replaced. -/
def putUnit {α : Type} (g : ℕ → S2500x128.Idx → α) (c l : ℕ) (S : S20000x128.Idx → α) : S20000x128.Idx → α :=
  fun j => if 2500 * c ≤ (j 0).val ∧ (j 0).val < 2500 * (c + l) then g ((j 0).val / 2500) (ix2 (Fin.ofNat 2500 ((j 0).val % 2500)) (j 1)) else S j

theorem overlay_unit {α : Type} (g : ℕ → S2500x128.Idx → α) (c : ℕ) (h : c < 8) (S : S20000x128.Idx → α) :
    (unitR c h).overlay S (g c) = putUnit g c 1 S := by
  funext j
  unfold putUnit
  by_cases hj : 2500 * c ≤ (j 0).val ∧ (j 0).val < 2500 * (c + 1)
  · rw [if_pos hj, show (j 0).val / 2500 = c by omega]
    refine overlay_at S (g c) j (ix2 (Fin.ofNat 2500 ((j 0).val % 2500)) (j 1)) ?_
    intro a; match a with
    | ⟨0, _⟩ =>
      show (j 0).val = 2500 * c + (j 0).val % 2500 % 2500
      omega
    | ⟨1, _⟩ => exact (Nat.zero_add _).symm
  · rw [if_neg hj]
    refine overlay_off S (g c) j 0 ?_
    show (j 0).val < 2500 * c ∨ 2500 * c + 2500 ≤ (j 0).val
    omega

theorem putUnit_zero {α : Type} (g : ℕ → S2500x128.Idx → α) (c : ℕ) (S : S20000x128.Idx → α) : putUnit g c 0 S = S := by
  funext j; unfold putUnit; rw [if_neg]; omega

theorem putUnit_succ {α : Type} (g : ℕ → S2500x128.Idx → α) (c l l' : ℕ) (S : S20000x128.Idx → α) :
    putUnit g (c + l) l' (putUnit g c l S) = putUnit g c (l + l') S := by
  funext j
  unfold putUnit
  by_cases h1 : 2500 * (c + l) ≤ (j 0).val ∧ (j 0).val < 2500 * (c + l + l')
  · rw [if_pos h1, if_pos (by omega)]
  · rw [if_neg h1]
    by_cases h2 : 2500 * c ≤ (j 0).val ∧ (j 0).val < 2500 * (c + l)
    · rw [if_pos h2, if_pos (by omega)]
    · rw [if_neg h2, if_neg (by omega)]

/-! ## Their runs -/

theorem wp_sims (c : Dev nD) (bd : Option ℕ) (arg5 : Memref sig .tc .vmem S8x128x2500 .f32) (arg3 arg4 : Memref sig .tc .vmem S20000x128 .bf16)
    (cc : FVec F S256x128 .bf16) (fh fl : S20000x128.Idx → F .bf16) (K : PUnit → sProp 𝕄) :
    ∀ (l k : ℕ) (h : k + l ≤ 8) (S : S8x128x2500.Idx → F .f32),
    iprop(owns (c : Thread nD τ) (e := .bf16) (Val := Elt F) arg3 fullShare fh ∗ owns (c : Thread nD τ) (e := .bf16) (Val := Elt F) arg4 fullShare fl ∗ owns (c : Thread nD τ) (e := .f32) (Val := Elt F) arg5 fullShare S
        ∗ (owns (c : Thread nD τ) (e := .bf16) (Val := Elt F) arg3 fullShare fh ∗ owns (c : Thread nD τ) (e := .bf16) (Val := Elt F) arg4 fullShare fl
            ∗ owns (c : Thread nD τ) (e := .f32) (Val := Elt F) arg5 fullShare (putSim (fun i => k0_pay8 cc (rowsOf fh i) (rowsOf fl i)) k l S) -∗ K ⟨⟩))
      ⊢ wp frame (wpE (defs₀ (F := F)) Variants.nat (c : Thread nD τ) bd) Set.univ (sims (F := F) arg5 arg3 arg4 cc l k h) K
  | 0, k, h, S => by
    unfold sims
    rw [wp_pure, putSim_zero]
    iintro ⟨H3, H4, H5, HK⟩
    imodintro
    iapply HK
    isplitl [H3]; · iexact H3
    isplitl [H4]; · iexact H4
    iexact H5
  | l + 1, k, h, S => by
    unfold sims
    simp only [Prog.lift, Prog.bind_op, Prog.bind_ret]
    iintro ⟨H3, H4, H5, HK⟩
    iapply (own_load (c : Thread nD τ) bd) $$ H3
    iintro H3
    iapply (own_load (c : Thread nD τ) bd) $$ H4
    iintro H4
    iapply (own_load (c : Thread nD τ) bd) $$ H5
    iintro H5
    iapply (own_store (c : Thread nD τ) bd) $$ H5
    iintro H5
    rw [load_unit fh k (by omega), load_unit fl k (by omega)]
    ihave H5 := (owns_eq (c : Thread nD τ) (overlay_sim (fun i => k0_pay8 cc (rowsOf fh i) (rowsOf fl i)) k (by omega) S)) $$ H5
    iapply (wp_sims c bd arg5 arg3 arg4 cc fh fl K l (k + 1) _ _)
    isplitl [H3]; · iexact H3
    isplitl [H4]; · iexact H4
    isplitl [H5]; · iexact H5
    rw [putSim_succ, Nat.add_comm 1 l]
    iexact HK

theorem wp_chunks (c : Dev nD) (bd : Option ℕ) (arg1 : Memref sig .tc .vmem S1x20000x128 .f32) (arg3 : Memref sig .tc .vmem S20000x128 .bf16) (harg3 : arg3.IsWhole)
    (arg4 : Memref sig .tc .vmem S20000x128 .bf16) (harg4 : arg4.IsWhole) (arg6 : Memref sig .tc .vmem S8x2500 .f32)
    (f : S1x20000x128.Idx → F .f32) (K : PUnit → sProp 𝕄) :
    ∀ (l k : ℕ) (h : k + l ≤ 8) (fh fl : S20000x128.Idx → F .bf16) (ms : S8x2500.Idx → F .f32),
    iprop(owns (c : Thread nD τ) (e := .f32) (Val := Elt F) arg1 fullShare f ∗ owns (c : Thread nD τ) (e := .bf16) (Val := Elt F) arg3 fullShare fh ∗ owns (c : Thread nD τ) (e := .bf16) (Val := Elt F) arg4 fullShare fl ∗ owns (c : Thread nD τ) (e := .f32) (Val := Elt F) arg6 fullShare ms
        ∗ (owns (c : Thread nD τ) (e := .f32) (Val := Elt F) arg1 fullShare f
            ∗ owns (c : Thread nD τ) (e := .bf16) (Val := Elt F) arg3 fullShare (putUnit (fun i => k0_pay15 (featOf f i)) k l fh)
            ∗ owns (c : Thread nD τ) (e := .bf16) (Val := Elt F) arg4 fullShare (putUnit (fun i => k0_pay16 (featOf f i)) k l fl)
            ∗ owns (c : Thread nD τ) (e := .f32) (Val := Elt F) arg6 fullShare (putSal (fun i => k0_pay12 (featOf f i)) k l ms) -∗ K ⟨⟩))
      ⊢ wp frame (wpE (defs₀ (F := F)) Variants.nat (c : Thread nD τ) bd) Set.univ (chunks (F := F) arg1 arg3 harg3 arg4 harg4 arg6 l k h) K
  | 0, k, h, fh, fl, ms => by
    unfold chunks
    rw [wp_pure, putUnit_zero, putUnit_zero, putSal_zero]
    iintro ⟨H1, H3, H4, H6, HK⟩
    imodintro
    iapply HK
    isplitl [H1]; · iexact H1
    isplitl [H3]; · iexact H3
    isplitl [H4]; · iexact H4
    iexact H6
  | l + 1, k, h, fh, fl, ms => by
    unfold chunks
    simp only [Prog.lift, Prog.bind_op, Prog.bind_ret]
    iintro ⟨H1, H3, H4, H6, HK⟩
    iapply (own_load (c : Thread nD τ) bd) $$ H1
    iintro H1
    iapply (own_load (c : Thread nD τ) bd) $$ H6
    iintro H6
    iapply (own_store (c : Thread nD τ) bd) $$ H6
    iintro H6
    iapply (own_load (c : Thread nD τ) bd) $$ H3
    iintro H3
    iapply (own_store (c : Thread nD τ) bd) $$ H3
    iintro H3
    iapply (own_load (c : Thread nD τ) bd) $$ H4
    iintro H4
    iapply (own_store (c : Thread nD τ) bd) $$ H4
    iintro H4
    rw [load_feat f k (by omega)]
    ihave H6 := (owns_eq (c : Thread nD τ) (overlay_sal (fun i => k0_pay12 (featOf f i)) k (by omega) ms)) $$ H6
    ihave H3 := (owns_eq (c : Thread nD τ) (overlay_unit (fun i => k0_pay15 (featOf f i)) k (by omega) fh)) $$ H3
    ihave H4 := (owns_eq (c : Thread nD τ) (overlay_unit (fun i => k0_pay16 (featOf f i)) k (by omega) fl)) $$ H4
    iapply (wp_chunks c bd arg1 arg3 harg3 arg4 harg4 arg6 f K l (k + 1) _ _ _ _)
    isplitl [H1]; · iexact H1
    isplitl [H3]; · iexact H3
    isplitl [H4]; · iexact H4
    isplitl [H6]; · iexact H6
    rw [putUnit_succ, putUnit_succ, putSal_succ, Nat.add_comm 1 l]
    iexact HK

end Cert.KernelIdeal.Sel

end
-- ==== Proof.Words.lean ====
module

public import proofs.«01_k».proof.Proof.Chunks

@[expose] public section

set_option maxRecDepth 16384

noncomputable section

/-! The kernel's index words on the extended reals: the first index of the largest masked saliency, a row's first
largest, and the slot of an index among the candidates. -/

namespace Cert.KernelIdeal.Sel

open Idealize.ShloMosaic Cert.KernelIdeal.Gen

/-! ## Folds -/

theorem minsi_cases (a b : BitVec 32) (ha : a.toNat < 2 ^ 31) (hb : b.toNat < 2 ^ 31) :
    (IntOp.minsi a b = a ∨ IntOp.minsi a b = b) ∧ (IntOp.minsi a b).toNat ≤ a.toNat ∧ (IntOp.minsi a b).toNat ≤ b.toNat := by
  unfold IntOp.minsi
  have e : a.slt b = decide (a.toNat < b.toNat) := by
    have h1 : a.toInt = a.toNat := by rw [BitVec.toInt_eq_toNat_cond, if_pos (by omega)]
    have h2 : b.toInt = b.toNat := by rw [BitVec.toInt_eq_toNat_cond, if_pos (by omega)]
    simp [BitVec.slt, h1, h2]
  have e' : b.slt a = decide (b.toNat < a.toNat) := by
    have h1 : b.toInt = b.toNat := by rw [BitVec.toInt_eq_toNat_cond, if_pos (by omega)]
    have h2 : a.toInt = a.toNat := by rw [BitVec.toInt_eq_toNat_cond, if_pos (by omega)]
    simp [BitVec.slt, h1, h2]
  by_cases h : a.toNat < b.toNat <;> by_cases h' : b.toNat < a.toNat <;> simp [e, e', h, h'] <;> omega

/-- A minimum of words is one of them, or the bound the fold starts at, and is below all of them. -/
theorem fold_minsi {ι : Type} (S : Finset ι) (h : ι → BitVec 32) (hh : ∀ i, (h i).toNat < 2147483647) :
    ((∃ i ∈ S, S.fold IntOp.minsi 2147483647#32 h = h i) ∨ (S.fold IntOp.minsi 2147483647#32 h = 2147483647#32))
      ∧ ∀ i ∈ S, (S.fold IntOp.minsi 2147483647#32 h).toNat ≤ (h i).toNat := by
  classical
  induction S using Finset.induction_on with
  | empty => simp
  | insert a S ha ih =>
    rw [Finset.fold_insert ha]
    obtain ⟨h1, h2⟩ := ih
    have hr : (S.fold IntOp.minsi 2147483647#32 h).toNat < 2 ^ 31 := by
      rcases h1 with ⟨i, _, e⟩ | e
      · rw [e]; have := hh i; omega
      · rw [e]; decide
    obtain ⟨hc, hl, hr'⟩ := minsi_cases (h a) (S.fold IntOp.minsi 2147483647#32 h) (by have := hh a; omega) hr
    refine ⟨?_, ?_⟩
    · rcases hc with e | e
      · exact .inl ⟨a, Finset.mem_insert_self a S, e⟩
      · rw [e]
        rcases h1 with ⟨i, hi, e2⟩ | e2
        · exact .inl ⟨i, Finset.mem_insert_of_mem hi, e2⟩
        · exact .inr e2
    · intro i hi
      rcases Finset.mem_insert.mp hi with rfl | hi
      · exact hl
      · exact hr'.trans (h2 i hi)

theorem fold_minsi_univ {ι : Type} [Fintype ι] [Nonempty ι] (h : ι → BitVec 32) (hh : ∀ i, (h i).toNat < 2147483647) :
    (∃ i, Finset.univ.fold IntOp.minsi 2147483647#32 h = h i)
      ∧ ∀ i, (Finset.univ.fold IntOp.minsi 2147483647#32 h).toNat ≤ (h i).toNat := by
  obtain ⟨h1, h2⟩ := fold_minsi Finset.univ h hh
  refine ⟨?_, fun i => h2 i (Finset.mem_univ i)⟩
  rcases h1 with ⟨i, _, e⟩ | e
  · exact ⟨i, e⟩
  · obtain ⟨i⟩ := ‹Nonempty ι›
    have := h2 i (Finset.mem_univ i)
    rw [e] at this
    have h3 := hh i
    have : (2147483647#32 : BitVec 32).toNat = 2147483647 := rfl
    omega

theorem ofBits_bot : Ideal.ofBits FTy.f32 4286578688#32 = ⊥ := by simp [Ideal.ofBits, Ideal.ieee]

theorem fold_max {ι : Type} [Fintype ι] [Nonempty ι] (g : ι → EReal) :
    ∃ x, Finset.univ.fold max (Ideal.ofBits FTy.f32 4286578688#32) g = g x ∧ ∀ y, g y ≤ g x := by
  obtain ⟨x, hx⟩ := Finite.exists_max g
  refine ⟨x, ?_, hx⟩
  refine le_antisymm ?_ ?_
  · exact Finset.fold_max_le _ |>.mpr ⟨by rw [ofBits_bot]; exact bot_le, fun y _ => hx y⟩
  · exact Finset.le_fold_max _ |>.mpr (.inr ⟨x, Finset.mem_univ x, le_rfl⟩)

/-- The least position at which the maximum is attained. -/
theorem first_max {ι : Type} [Fintype ι] [Nonempty ι] (g : ι → EReal) (pos : ι → BitVec 32) (big : BitVec 32)
    (hpos : ∀ x, (pos x).toNat < big.toNat) (hbig : big.toNat < 2147483647)
    [d : ∀ x, Decidable (g x = Finset.univ.fold max (Ideal.ofBits FTy.f32 4286578688#32) g)] :
    ∃ x, Finset.univ.fold IntOp.minsi 2147483647#32
        (fun x => if g x = Finset.univ.fold max (Ideal.ofBits FTy.f32 4286578688#32) g then pos x else big) = pos x
      ∧ (∀ y, g y ≤ g x) ∧ ∀ y, g y = g x → (pos x).toNat ≤ (pos y).toNat := by
  obtain ⟨m, hm, hmax⟩ := fold_max g
  obtain ⟨⟨x, hx⟩, hle⟩ := fold_minsi_univ
    (fun x => if g x = Finset.univ.fold max (Ideal.ofBits FTy.f32 4286578688#32) g then pos x else big)
    (fun x => by have := hpos x; split <;> omega)
  have hlm := hle m
  rw [hx] at hlm hle
  rw [if_pos hm.symm] at hlm
  have hgx : g x = Finset.univ.fold max (Ideal.ofBits FTy.f32 4286578688#32) g := by
    by_contra hne
    rw [if_neg hne] at hlm
    have := hpos m
    omega
  rw [if_pos hgx] at hx hle
  refine ⟨x, hx, fun y => by rw [hgx, hm]; exact hmax y, fun y hy => ?_⟩
  have := hle y
  rwa [if_pos (hy.trans hgx)] at this

theorem fold_addi_single {ι : Type} [DecidableEq ι] (h : ι → BitVec 32) (i : ι) (hz : ∀ j, j ≠ i → h j = 0#32) (S : Finset ι) :
    S.fold IntOp.addi 0#32 h = if i ∈ S then h i else 0#32 := by
  induction S using Finset.induction_on with
  | empty => simp
  | insert a S ha ih =>
    rw [Finset.fold_insert ha, ih]
    by_cases e : a = i
    · subst e
      rw [if_neg ha, if_pos (Finset.mem_insert_self a S)]
      simp [IntOp.addi]
    · rw [hz a e]
      by_cases hi : i ∈ S
      · rw [if_pos hi, if_pos (Finset.mem_insert_of_mem hi)]; simp [IntOp.addi]
      · rw [if_neg hi, if_neg (by rw [Finset.mem_insert]; rintro (h | h); exact e h.symm; exact hi h)]; simp [IntOp.addi]

theorem sel_eq {α : Type} (a w : BitVec 32) (x y : α) : Scalar.select (IntOp.cmpi .eq a w) x y = if a = w then x else y := by
  by_cases h : a = w
  · subst h; simp [Scalar.select, IntOp.cmpi]
  · have hb : (a == w) = false := beq_eq_false_iff_ne.mpr h
    rw [if_neg h]
    simp only [Scalar.select, IntOp.cmpi, hb]
    rfl

/-! ## The kernel's words -/

/-- A feature's column within its row of 2500. -/
abbrev cols : IVec S8x2500 32 := iota .tc S8x2500 32 [1] Facts₀.iota_S8x2500_d1_w32
/-- The eight rows' numbers. -/
abbrev rws : IVec S8x1 32 := iota .tc S8x1 32 [0] Facts₀.iota_S8x1_d0_w32
/-- The candidates' numbers. -/
abbrev slots : IVec S128x1 32 := iota .tc S128x1 32 [0] Facts₀.iota_S128x1_d0_w32

/-- The index of the first largest masked saliency. -/
def idxW (ms : S8x2500.Idx → EReal) : BitVec 32 := extractAt ![0, 0, 0] (k0_pay1 (F := Ideal) k0_pay72 ms) Facts₀.inpos_S1x1x1_p0_0_0

theorem toNat_small (n : ℕ) (h : n < 20000) : (BitVec.ofNat 32 n).toNat = n := by
  rw [BitVec.toNat_ofNat]; omega

theorem pos_toNat (s : Fin 8) (x : Fin 2500) :
    (IntOp.addi (IntOp.muli (BitVec.ofNat 32 s.val) 2500#32) (BitVec.ofNat 32 x.val)).toNat = 2500 * s.val + x.val := by
  have := s.isLt; have := x.isLt
  simp only [IntOp.addi, IntOp.muli, BitVec.toNat_add, BitVec.toNat_mul, BitVec.toNat_ofNat]
  omega

theorem idxW_spec (ms : S8x2500.Idx → EReal) :
    ∃ (s : Fin 8) (x : Fin 2500), (idxW ms).toNat = 2500 * s.val + x.val
      ∧ ∀ (s' : Fin 8) (x' : Fin 2500), ms (ix2 s' x') ≤ ms (ix2 s x)
        ∧ (ms (ix2 s' x') = ms (ix2 s x) → 2500 * s.val + x.val ≤ 2500 * s'.val + x'.val) := by
  unfold idxW
  pointwise [k0_pay1, k0_pay72]
  obtain ⟨p, hp, hmax, hfirst⟩ := first_max (fun x : Fin 8 × Fin 2500 => ms (ix2 x.1 x.2))
    (fun x => IntOp.addi (IntOp.muli (BitVec.ofNat 32 x.1.val) 2500#32) (BitVec.ofNat 32 x.2.val)) 20000#32
    (fun x => by rw [pos_toNat]; have := x.1.isLt; have := x.2.isLt; show _ < 20000; omega) (by decide)
  refine ⟨p.1, p.2, ?_, fun s' x' => ⟨hmax (s', x'), fun h => ?_⟩⟩
  · refine Eq.trans (congrArg BitVec.toNat ?_) (pos_toNat p.1 p.2)
    exact hp
  · have := hfirst (s', x') h
    rwa [pos_toNat, pos_toNat] at this

theorem idxW_lt (ms : S8x2500.Idx → EReal) : (idxW ms).toNat < 20000 := by
  obtain ⟨s, x, h, _⟩ := idxW_spec ms
  have := s.isLt; have := x.isLt
  omega

theorem pay75_spec (ms : S8x2500.Idx → EReal) (s : Fin 8) :
    ∃ x : Fin 2500, (k0_pay75 (F := Ideal) cols rws ms (ix2 s (0 : Fin 1))).toNat = 2500 * s.val + x.val
      ∧ ∀ x' : Fin 2500, ms (ix2 s x') ≤ ms (ix2 s x) ∧ (ms (ix2 s x') = ms (ix2 s x) → x.val ≤ x'.val) := by
  pointwise [k0_pay75, k0_pay74]
  obtain ⟨p, hp, hmax, hfirst⟩ := first_max (fun x : Fin 2500 => ms (ix2 s x))
    (fun x => BitVec.ofNat 32 x.val) 2500#32
    (fun x => by have := x.isLt; rw [toNat_small _ (by omega)]; exact this) (by decide)
  refine ⟨p, ?_, fun x' => ⟨hmax x', fun h => ?_⟩⟩
  · refine Eq.trans (congrArg (fun w => (IntOp.addi w (IntOp.muli (BitVec.ofNat 32 s.val) 2500#32)).toNat) hp) ?_
    have := s.isLt; have := p.isLt
    simp only [IntOp.addi, IntOp.muli, BitVec.toNat_add, BitVec.toNat_mul, BitVec.toNat_ofNat]
    omega
  · have := hfirst x' h
    have h1 := p.isLt; have h2 := x'.isLt
    rwa [toNat_small _ (by omega), toNat_small _ (by omega)] at this

theorem pay75_lt (ms : S8x2500.Idx → EReal) (s : Fin 8) : (k0_pay75 (F := Ideal) cols rws ms (ix2 s (0 : Fin 1))).toNat < 20000 := by
  obtain ⟨x, h, _⟩ := pay75_spec ms s
  have := s.isLt; have := x.isLt
  omega

/-- The index sought is the first largest of one of the eight rows. -/
theorem idxW_row (ms : S8x2500.Idx → EReal) : ∃ s : Fin 8, k0_pay75 (F := Ideal) cols rws ms (ix2 s (0 : Fin 1)) = idxW ms := by
  obtain ⟨s, x, h, hs⟩ := idxW_spec ms
  obtain ⟨y, h', hy⟩ := pay75_spec ms s
  refine ⟨s, BitVec.eq_of_toNat_eq ?_⟩
  rw [h, h']
  have e : ms (ix2 s y) = ms (ix2 s x) := le_antisymm (hs s y).1 (hy x).1
  have h1 := (hs s y).2 e
  have h2 := (hy x).2 e.symm
  omega

theorem entry_eq (gi : IVec S8x1 32) (s : Fin 8) : entry rws gi s.val = gi (ix2 s (0 : Fin 1)) := by
  pointwise [entry]
  rw [fold_addi_single _ (s, (0 : Fin 1))]
  · rw [if_pos (Finset.mem_univ _), sel_eq, if_pos rfl]
  · rintro ⟨a, b⟩ hne
    have hb : b = 0 := Subsingleton.elim _ _
    have : a.val ≠ s.val := fun h => hne (by rw [hb, Fin.ext h])
    have h1 := a.isLt; have h2 := s.isLt
    have hw : ¬ BitVec.ofNat 32 a.val = BitVec.ofNat 32 s.val := fun h => this (by
      have := congrArg BitVec.toNat h
      rwa [toNat_small _ (by omega), toNat_small _ (by omega)] at this)
    exact (sel_eq _ _ _ _).trans (if_neg hw)

theorem entry_lt (ms : S8x2500.Idx → EReal) (s : ℕ) (hs : s < 8) : (entry rws (k0_pay75 (F := Ideal) cols rws ms) s).toNat < 20000 := by
  have := entry_eq (k0_pay75 (F := Ideal) cols rws ms) ⟨s, hs⟩
  dsimp only at this
  rw [this]
  exact pay75_lt ms ⟨s, hs⟩

/-- The bit that says that the index sought is a candidate. -/
def fnd (ms : S8x2500.Idx → EReal) (ix : S128x1.Idx → BitVec 32) : BitVec 1 :=
  Scalar.cmpf .ogt (k0_pay3 (F := Ideal) k0_pay72 ms ix) (Scalar.ofBits .f32 0x00000000#32)

/-- The slot of the index sought among the candidates. -/
def slotW (ms : S8x2500.Idx → EReal) (ix : S128x1.Idx → BitVec 32) : BitVec 32 :=
  extractAt ![0, 0, 0] (k0_pay4 (F := Ideal) k0_pay72 slots ms ix) Facts₀.inpos_S1x1x1_p0_0_0

theorem fnd_iff (ms : S8x2500.Idx → EReal) (ix : S128x1.Idx → BitVec 32) :
    fnd ms ix = 1#1 ↔ ∃ k : Fin 128, ix (ix2 k (0 : Fin 1)) = idxW ms := by
  unfold fnd k0_pay3 k0_pay2
  change Scalar.cmpf .ogt _ _ = 1#1 ↔ _
  generalize hw : extractAt ![0, 0, 0] (k0_pay1 (F := Ideal) k0_pay72 ms) Facts₀.inpos_S1x1x1_p0_0_0 = w
  have hw' : idxW ms = w := hw
  rw [hw']
  pointwise
  simp only [sel_eq]
  rw [show ∀ p : Prop, ∀ d : Decidable p, (BitVec.ofBool (@decide p d) = 1#1 ↔ p) from fun p d => by by_cases h : p <;> simp [h],
    Finset.lt_fold_max]
  constructor
  · rintro (h | ⟨x, _, h⟩)
    · rw [ofBits_bot] at h; exact absurd h not_lt_bot
    · refine ⟨x.1, ?_⟩
      by_contra hne
      rw [if_neg hne] at h
      exact lt_irrefl _ h
  · rintro ⟨k, hk⟩
    refine .inr ⟨(k, 0), Finset.mem_univ _, ?_⟩
    rw [if_pos hk]
    exact zero_lt_one

theorem slotW_spec (ms : S8x2500.Idx → EReal) (ix : S128x1.Idx → BitVec 32) (h : fnd ms ix = 1#1) :
    (slotW ms ix).toNat < 128 ∧ ∀ k : Fin 128, k.val = (slotW ms ix).toNat → ix (ix2 k (0 : Fin 1)) = idxW ms := by
  obtain ⟨k, hk⟩ := (fnd_iff ms ix).mp h
  unfold slotW k0_pay4 k0_pay2
  generalize hw : extractAt ![0, 0, 0] (k0_pay1 (F := Ideal) k0_pay72 ms) Facts₀.inpos_S1x1x1_p0_0_0 = w
  have hw' : idxW ms = w := hw
  rw [hw'] at hk ⊢
  pointwise
  simp only [sel_eq]
  obtain ⟨⟨x, hx⟩, hle⟩ := fold_minsi_univ
    (fun x : Fin 128 × Fin 1 => if ix (ix2 x.1 (0 : Fin 1)) = w then BitVec.ofNat 32 x.1.val else 128#32)
    (fun x => by
      have := x.1.isLt
      split
      · rw [toNat_small _ (by omega)]; omega
      · decide)
  have hlk := hle (k, 0)
  rw [if_pos hk, toNat_small _ (by have := k.isLt; omega)] at hlk
  have hx1 : ix (ix2 x.1 (0 : Fin 1)) = w := by
    by_contra hne
    rw [if_neg hne] at hx
    rw [hx] at hlk
    have := k.isLt
    have h128 : (128#32 : BitVec 32).toNat = 128 := rfl
    dsimp only at hlk
    omega
  rw [if_pos hx1] at hx
  rw [hx, toNat_small _ (by have := x.1.isLt; omega)]
  refine ⟨x.1.isLt, fun k' hk' => ?_⟩
  rw [Fin.ext hk']; exact hx1

end Cert.KernelIdeal.Sel
-- ==== Proof.Values.lean ====
module

public import proofs.«01_k».proof.Proof.Words

@[expose] public section

set_option maxRecDepth 16384

noncomputable section

/-! The kernel's values on the extended reals, element by element, and the selection it computes. -/

namespace Cert.KernelIdeal.Sel

open Idealize.ShloMosaic Cert.KernelIdeal.Gen

/-- The least norm divided by. -/
def eps : EReal := Ideal.ofBits FTy.f32 730643660#32

/-- A row divided by its norm. -/
def uE (v : Fin 128 → EReal) : Fin 128 → EReal :=
  fun d => v d * Ideal.div 1 (max (Ideal.sqrt (∑ x, v x * v x)) eps)

/-- A row's norm, as the kernel adds it up. -/
def salE (v : Fin 128 → EReal) : EReal := Ideal.sqrt (∑ x, v x * v x + ∑ x, (v x * v x - v x * v x))

/-- The similarity of a candidate to a feature, as the kernel adds it up from high and low parts. -/
def simE (u a : Fin 128 → EReal) : EReal :=
  ∑ x, u x * a x + ∑ x, (u x - u x) * a x + (∑ x, u x * (a x - a x) + ∑ x, (u x - u x) * (a x - a x))

/-- A feature. -/
def rowE (f : S1x20000x128.Idx → EReal) (i : Fin 20000) : Fin 128 → EReal := fun d => f (ix3 (0 : Fin 1) i d)

/-- The similarity of two features. -/
def simF (f : S1x20000x128.Idx → EReal) (i j : Fin 20000) : EReal := simE (uE (rowE f i)) (uE (rowE f j))

/-- The feature at a place of the eight rows. -/
def gi (s : Fin 8) (x : Fin 2500) : Fin 20000 := Fin.ofNat 20000 (2500 * s.val + x.val)

theorem gi_val (s : Fin 8) (x : Fin 2500) : (gi s x).val = 2500 * s.val + x.val := by
  have := s.isLt; have := x.isLt
  exact Nat.mod_eq_of_lt (by omega)

def fhF (f : S1x20000x128.Idx → EReal) : S20000x128.Idx → EReal := fun j => uE (rowE f (j 0)) (j 1)
def flF (f : S1x20000x128.Idx → EReal) : S20000x128.Idx → EReal := fun j => fhF f j - fhF f j
def salF (f : S1x20000x128.Idx → EReal) : S8x2500.Idx → EReal := fun j => salE (rowE f (gi (j 0) (j 1)))

theorem fh_eq (f : S1x20000x128.Idx → EReal) (S : S20000x128.Idx → EReal) :
    putUnit (fun i => k0_pay15 (F := Ideal) (featOf f i)) 0 8 S = fhF f := by
  funext j
  obtain ⟨j0, j1, rfl⟩ : ∃ (a : Fin 20000) (b : Fin 128), j = ix2 a b := ⟨j 0, j 1, eq_ix2 j⟩
  have h0 := j0.isLt
  have hi : j0 = Fin.ofNat 20000 (2500 * (j0.val / 2500) + (Fin.ofNat 2500 (j0.val % 2500)).val) :=
    Fin.ext (by show j0.val = (2500 * (j0.val / 2500) + j0.val % 2500 % 2500) % 20000; omega)
  unfold putUnit
  rw [if_pos ⟨by omega, by show j0.val < _; omega⟩]
  show k0_pay15 (F := Ideal) (featOf f (j0.val / 2500)) (ix2 (Fin.ofNat 2500 (j0.val % 2500)) j1) = uE (rowE f j0) j1
  generalize Fin.ofNat 2500 (j0.val % 2500) = y at hi ⊢
  pointwise [k0_pay15, k0_pay14, k0_pay13, k0_pay11, k0_pay10, featOf]
  show _ = uE (rowE f j0) j1
  generalize hq : (Fin.ofNat 20000 (2500 * (j0.val / 2500) + y.val)) = q at hi ⊢
  subst hi
  rfl

theorem fl_eq (f : S1x20000x128.Idx → EReal) (S : S20000x128.Idx → EReal) :
    putUnit (fun i => k0_pay16 (F := Ideal) (featOf f i)) 0 8 S = flF f := by
  have e : ∀ i y, k0_pay16 (F := Ideal) (featOf f i) y = k0_pay15 (F := Ideal) (featOf f i) y - k0_pay15 (F := Ideal) (featOf f i) y := by
    intro i y
    obtain ⟨y0, y1, rfl⟩ : ∃ (a : Fin 2500) (b : Fin 128), y = ix2 a b := ⟨y 0, y 1, eq_ix2 y⟩
    pointwise [k0_pay15, k0_pay16, k0_pay14]
  funext j
  have h := congrFun (fh_eq f S) j
  have h0 : (j 0).val < 20000 := (j 0).isLt
  unfold putUnit at h ⊢
  unfold flF
  rw [if_pos ⟨by omega, by omega⟩] at h ⊢
  exact (e _ _).trans (congrArg₂ (· - ·) h h)

theorem sal_eq (f : S1x20000x128.Idx → EReal) (S : S8x2500.Idx → EReal) :
    putSal (fun i => k0_pay12 (F := Ideal) (featOf f i)) 0 8 S = salF f := by
  funext j
  obtain ⟨j0, j1, rfl⟩ : ∃ (a : Fin 8) (b : Fin 2500), j = ix2 a b := ⟨j 0, j 1, eq_ix2 j⟩
  have h0 := j0.isLt
  unfold putSal
  rw [if_pos ⟨by omega, by show j0.val < _; omega⟩]
  show k0_pay12 (F := Ideal) (featOf f j0.val) (ix2 (0 : Fin 1) j1) = salE (rowE f (gi j0 j1))
  pointwise [k0_pay12, k0_pay11, k0_pay10, k0_pay9, featOf]
  rfl

/-- The similarities of the candidates to all features. -/
def simT (f : S1x20000x128.Idx → EReal) (cf : S128x128.Idx → EReal) : S8x128x2500.Idx → EReal :=
  fun j => simE (uE fun d => cf (ix2 (j 1) d)) (uE (rowE f (gi (j 0) (j 2))))

theorem pay7_eq (cc : FVec Ideal S256x128 .bf16) (x y : S2500x128.Idx → EReal) :
    k0_pay7 (F := Ideal) cc x y (constant S256x2500 .f32 0x00000000#32) = k0_pay8 (F := Ideal) cc x y := rfl

theorem simT_eq (f : S1x20000x128.Idx → EReal) (cf : S128x128.Idx → EReal) (S : S8x128x2500.Idx → EReal) :
    putSim (fun i => k0_pay8 (F := Ideal) (k0_pay416 (F := Ideal) cf) (rowsOf (fhF f) i) (rowsOf (flF f) i)) 0 8 S = simT f cf := by
  funext j
  obtain ⟨j0, j1, j2, rfl⟩ : ∃ (a : Fin 8) (b : Fin 128) (c : Fin 2500), j = ix3 a b c := ⟨j 0, j 1, j 2, eq_ix3 j⟩
  have h0 := j0.isLt
  unfold putSim
  rw [if_pos ⟨by omega, by show j0.val < _; omega⟩]
  show k0_pay8 (F := Ideal) (k0_pay416 (F := Ideal) cf) (rowsOf (fhF f) j0.val) (rowsOf (flF f) j0.val) (ix3 (0 : Fin 1) j1 j2)
    = simE (uE fun d => cf (ix2 j1 d)) (uE (rowE f (gi j0 j2)))
  have hx : ∀ d : Fin 128, rowsOf (fhF f) j0.val (ix2 j2 d) = uE (rowE f (gi j0 j2)) d := fun d => rfl
  have hy : ∀ d : Fin 128, rowsOf (flF f) j0.val (ix2 j2 d) = uE (rowE f (gi j0 j2)) d - uE (rowE f (gi j0 j2)) d := fun d => rfl
  generalize rowsOf (fhF f) j0.val = x at hx ⊢
  generalize rowsOf (flF f) j0.val = y at hy ⊢
  pointwise [k0_pay8, k0_pay416]
  simp only [hx, hy]
  rfl

/-- The masked saliencies after one selection. -/
def msNext (f : S1x20000x128.Idx → EReal) (ms : S8x2500.Idx → EReal) : S8x2500.Idx → EReal :=
  fun j => ms j * (1 - min 1 (max 0 (simF f (pt (idxW ms)) (gi (j 0) (j 1)))))

/-- The masked saliencies after `r` selections. -/
def msAt (f : S1x20000x128.Idx → EReal) : ℕ → S8x2500.Idx → EReal
  | 0 => salF f
  | r + 1 => msNext f (msAt f r)

theorem pay5_eq (f : S1x20000x128.Idx → EReal) (ms : S8x2500.Idx → EReal) (v : S8x1x2500.Idx → EReal)
    (h : ∀ (s : Fin 8) (x : Fin 2500), v (ix3 s (0 : Fin 1) x) = simF f (pt (idxW ms)) (gi s x)) :
    k0_pay5 (F := Ideal) ms v = msNext f ms := by
  funext j
  obtain ⟨j0, j1, rfl⟩ : ∃ (a : Fin 8) (b : Fin 2500), j = ix2 a b := ⟨j 0, j 1, eq_ix2 j⟩
  show _ = ms (ix2 j0 j1) * (1 - min 1 (max 0 (simF f (pt (idxW ms)) (gi j0 j1))))
  rw [← h]
  pointwise [k0_pay5]

end Cert.KernelIdeal.Sel
-- ==== Proof.Table.lean ====
module

public import proofs.«01_k».proof.Proof.Values

@[expose] public section

set_option maxRecDepth 16384

noncomputable section

/-! The candidates' table: what a refill leaves in it, and what the loop keeps of it. -/

namespace Cert.KernelIdeal.Sel

open Idealize.ShloMosaic Cert.KernelIdeal.Gen

theorem pay76_eq (ms : S8x2500.Idx → EReal) (s : Fin 8) :
    k0_pay76 (F := Ideal) cols rws ms (ix2 s (0 : Fin 1)) = k0_pay75 (F := Ideal) cols rws ms (ix2 s (0 : Fin 1)) := by
  unfold k0_pay76
  generalize k0_pay75 (F := Ideal) cols rws ms = w
  pointwise []

theorem iters_keep (k : Fin 128) : ∀ (l it : ℕ) (ms : S8x2500.Idx → EReal) (ix : S128x1.Idx → BitVec 32), k.val < 8 * it →
    itersIx (F := Ideal) cols rws l it ms ix (ix2 k (0 : Fin 1)) = ix (ix2 k (0 : Fin 1))
  | 0, it, ms, ix, h => rfl
  | l + 1, it, ms, ix, h => by
    unfold itersIx
    rw [iters_keep k l (it + 1) _ _ (by omega)]
    show (if 8 * it ≤ k.val ∧ k.val < 8 * it + 8 then _ else ix (ix2 k (0 : Fin 1))) = _
    rw [if_neg (by omega)]

/-- The first `n` candidates are the features their indices name. -/
def Copies (f : S1x20000x128.Idx → EReal) (ix : S128x1.Idx → BitVec 32) (cf : S128x128.Idx → EReal) (n : ℕ) : Prop :=
  ∀ k : Fin 128, k.val < n → ∀ d : Fin 128, cf (ix2 k d) = f (ix3 (0 : Fin 1) (pt (ix (ix2 k (0 : Fin 1)))) d)

theorem iters_copies (f : S1x20000x128.Idx → EReal) : ∀ (l it : ℕ) (ms : S8x2500.Idx → EReal) (cf : S128x128.Idx → EReal)
    (ix : S128x1.Idx → BitVec 32), Copies f ix cf (8 * it) →
    Copies f (itersIx (F := Ideal) cols rws l it ms ix) (itersCf (F := Ideal) f cols rws l it ms cf) (8 * (it + l))
  | 0, it, ms, cf, ix, h => h
  | l + 1, it, ms, cf, ix, h => by
    unfold itersIx itersCf
    rw [show it + (l + 1) = it + 1 + l by omega]
    refine iters_copies f l (it + 1) _ _ _ ?_
    intro k hk d
    show (if 8 * it + 0 ≤ k.val ∧ k.val < 8 * it + 0 + 8 then
        f (ix3 (0 : Fin 1) (pt (entry rws (k0_pay75 (F := Ideal) cols rws ms) (k.val - 8 * it))) d) else cf (ix2 k d))
      = f (ix3 (0 : Fin 1) (pt (if 8 * it ≤ k.val ∧ k.val < 8 * it + 8 then
          k0_pay76 (F := Ideal) cols rws ms (ix2 (Fin.ofNat 8 (k.val - 8 * it)) (0 : Fin 1)) else ix (ix2 k (0 : Fin 1)))) d)
    by_cases hin : 8 * it ≤ k.val
    · rw [if_pos (by omega), if_pos (by omega), pay76_eq]
      have e := entry_eq (k0_pay75 (F := Ideal) cols rws ms) (Fin.ofNat 8 (k.val - 8 * it))
      rw [show (Fin.ofNat 8 (k.val - 8 * it)).val = k.val - 8 * it from Nat.mod_eq_of_lt (by omega)] at e
      rw [e]
    · rw [if_neg (by omega), if_neg (by omega)]
      exact h k (by omega) d

/-- A refill's table holds the index sought. -/
theorem iters_found (ms : S8x2500.Idx → EReal) (ix : S128x1.Idx → BitVec 32) :
    fnd ms (itersIx (F := Ideal) cols rws 16 0 ms ix) = 1#1 := by
  obtain ⟨s, hs⟩ := idxW_row ms
  have hlt := s.isLt
  rw [fnd_iff]
  refine ⟨⟨s.val, by omega⟩, ?_⟩
  unfold itersIx
  rw [iters_keep _ 15 (0 + 1) _ _ (by show s.val < _; omega)]
  show (if 8 * 0 ≤ s.val ∧ s.val < 8 * 0 + 8 then
      k0_pay76 (F := Ideal) cols rws ms (ix2 (Fin.ofNat 8 (s.val - 8 * 0)) (0 : Fin 1)) else _) = _
  rw [if_pos (by omega), pay76_eq, ← hs, show Fin.ofNat 8 (s.val - 8 * 0) = s from Fin.ext (Nat.mod_eq_of_lt (by omega))]

/-- The similarities held of each candidate that is a feature are that feature's. -/
def Tab (f : S1x20000x128.Idx → EReal) (ix : S128x1.Idx → BitVec 32) (S : S8x128x2500.Idx → EReal) : Prop :=
  ∀ k : Fin 128, (ix (ix2 k (0 : Fin 1))).toNat < 20000 →
    ∀ (s : Fin 8) (x : Fin 2500), S (ix3 s k x) = simF f (pt (ix (ix2 k (0 : Fin 1)))) (gi s x)

theorem tab_refill (f : S1x20000x128.Idx → EReal) (ms : S8x2500.Idx → EReal) (cf : S128x128.Idx → EReal) (ix : S128x1.Idx → BitVec 32) :
    Tab f (itersIx (F := Ideal) cols rws 16 0 ms ix) (simT f (itersCf (F := Ideal) f cols rws 16 0 ms cf)) := by
  intro k _ s x
  have h := iters_copies f 16 0 ms cf ix (fun k hk => absurd hk (by omega)) k (by omega)
  show simE (uE fun d => itersCf (F := Ideal) f cols rws 16 0 ms cf (ix2 k d)) _ = simE (uE (rowE f _)) _
  rw [show (fun d => itersCf (F := Ideal) f cols rws 16 0 ms cf (ix2 k d)) = rowE f (pt (itersIx (F := Ideal) cols rws 16 0 ms ix (ix2 k (0 : Fin 1)))) from funext h]
  rfl

theorem tab_start (f : S1x20000x128.Idx → EReal) (S : S8x128x2500.Idx → EReal) : Tab f k0_pay73 S := by
  intro k hk
  have : k0_pay73 (ix2 k (0 : Fin 1)) = 4294967295#32 := by pointwise [k0_pay73]
  rw [this] at hk
  exact absurd hk (by decide)

/-- The feature of the `r`-th selection. -/
def pickF (f : S1x20000x128.Idx → EReal) (r : ℕ) : Fin 20000 := pt (idxW (msAt f r))

/-- The first `r` selections are written. -/
def OutOk (f : S1x20000x128.Idx → EReal) (r : ℕ) (O : S1x16x128.Idx → EReal) : Prop :=
  ∀ (k : Fin 16) (d : Fin 128), k.val < r → O (ix3 (0 : Fin 1) k d) = f (ix3 (0 : Fin 1) (pickF f k.val) d)

/-- The selections. -/
def outF (f : S1x20000x128.Idx → EReal) : S1x16x128.Idx → EReal := fun j => f (ix3 (0 : Fin 1) (pickF f (j 1).val) (j 2))

theorem out_eq (f : S1x20000x128.Idx → EReal) (O : S1x16x128.Idx → EReal) (h : OutOk f 16 O) : O = outF f := by
  funext j
  obtain ⟨j0, j1, j2, rfl⟩ : ∃ (a : Fin 1) (b : Fin 16) (c : Fin 128), j = ix3 a b c := ⟨j 0, j 1, j 2, eq_ix3 j⟩
  obtain rfl : j0 = 0 := Subsingleton.elim _ _
  exact h j1 j2 j1.isLt

theorem toNat_lt16 (r : ℕ) (h : r < 16) : (BitVec.ofNat 32 r).toNat = r := toNat_small r (by omega)

theorem put_out (f : S1x20000x128.Idx → EReal) (w v : BitVec 32) (hw : w.toNat < 20000) (O : S1x16x128.Idx → EReal)
    (i1 : ∀ a, k0_off2 w a + S1x1x128.size a ≤ S1x20000x128.size a) (i2 : ∀ a, k0_off3 v a + S1x1x128.size a ≤ S1x16x128.size a)
    (k : Fin 16) (d : Fin 128) :
    (Rect.unit (s := S1x16x128) (k0_off3 v) S1x1x128.size i2).overlay O
      (k0_pay6 (F := Ideal) fun x => f ((Rect.unit (s := S1x20000x128) (k0_off2 w) S1x1x128.size i1).toLoadRect.idx x)) (ix3 (0 : Fin 1) k d)
      = if k.val = v.toNat then f (ix3 (0 : Fin 1) (pt w) d) else O (ix3 (0 : Fin 1) k d) := by
  have hv : ∀ v : S1x1x128.Idx → EReal, k0_pay6 (F := Ideal) v (ix3 (0 : Fin 1) (0 : Fin 1) d) = v (ix3 (0 : Fin 1) (0 : Fin 1) d) := by
    intro v; pointwise [k0_pay6]
  by_cases he : k.val = v.toNat
  · rw [if_pos he]
    refine (overlay_at O _ (ix3 (0 : Fin 1) k d) (ix3 (0 : Fin 1) (0 : Fin 1) d) (by
      intro a; match a with
      | ⟨0, _⟩ => rfl
      | ⟨1, _⟩ => exact he
      | ⟨2, _⟩ => exact (Nat.zero_add _).symm)).trans ((hv _).trans (congrArg f (funext fun a => Fin.ext ?_)))
    match a with
    | ⟨0, _⟩ => rfl
    | ⟨1, _⟩ => exact (pt_val hw).symm
    | ⟨2, _⟩ =>
      show 0 + 1 * d.val = d.val
      omega
  · rw [if_neg he]
    refine overlay_off O _ (ix3 (0 : Fin 1) k d) 1 ?_
    show k.val < v.toNat ∨ v.toNat + 1 ≤ k.val
    omega

theorem out_step (f : S1x20000x128.Idx → EReal) (r : ℕ) (hr : r < 16) (O : S1x16x128.Idx → EReal) (h : OutOk f r O)
    (i1 : ∀ a, k0_off2 (idxW (msAt f r)) a + S1x1x128.size a ≤ S1x20000x128.size a)
    (i2 : ∀ a, k0_off3 (BitVec.ofNat 32 r) a + S1x1x128.size a ≤ S1x16x128.size a) :
    OutOk f (r + 1) ((Rect.unit (s := S1x16x128) (k0_off3 (BitVec.ofNat 32 r)) S1x1x128.size i2).overlay O
      (k0_pay6 (F := Ideal) fun x => f ((Rect.unit (s := S1x20000x128) (k0_off2 (idxW (msAt f r))) S1x1x128.size i1).toLoadRect.idx x))) := by
  intro k d hk
  rw [put_out f _ _ (idxW_lt _) O i1 i2 k d, toNat_lt16 r hr]
  by_cases he : k.val = r
  · rw [if_pos he, he]; unfold pickF; with_reducible rfl
  · rw [if_neg he]
    exact h k d (by omega)

theorem load_full {α : Type} {s : Shape} {off : Fin s.rank → ℕ} (inb : ∀ a, off a + s.size a ≤ s.size a) (X : s.Idx → α) :
    (fun x => X ((Rect.unit off s.size inb).toLoadRect.idx x)) = X := by
  funext x
  refine congrArg X (funext fun a => Fin.ext ?_)
  show off a + 1 * (x a).val = (x a).val
  have := inb a
  omega

theorem overlay_full {α : Type} {s : Shape} {off : Fin s.rank → ℕ} (inb : ∀ a, off a + s.size a ≤ s.size a) (X w : s.Idx → α) :
    (Rect.unit off s.size inb).overlay X w = w := by
  funext j
  refine overlay_at X w j j fun a => ?_
  have := inb a
  omega

/-- What a found selection does to the masked saliencies. -/
theorem ms_step (f : S1x20000x128.Idx → EReal) (ms : S8x2500.Idx → EReal) (ix : S128x1.Idx → BitVec 32) (S : S8x128x2500.Idx → EReal)
    (hT : Tab f ix S) (h : fnd ms ix = 1#1) (i1 : ∀ a, k0_off1 (slotW ms ix) a + S8x1x2500.size a ≤ S8x128x2500.size a) :
    k0_pay5 (F := Ideal) ms (fun x => S ((Rect.unit (s := S8x128x2500) (k0_off1 (slotW ms ix)) S8x1x2500.size i1).toLoadRect.idx x))
      = msNext f ms := by
  obtain ⟨hlt, hs⟩ := slotW_spec ms ix h
  generalize slotW ms ix = v at hlt hs i1 ⊢
  refine pay5_eq f ms _ fun s x => ?_
  have e := hs ⟨v.toNat, hlt⟩ rfl
  rw [← e, ← hT ⟨v.toNat, hlt⟩ (by rw [e]; exact idxW_lt ms) s x]
  refine congrArg S (funext fun a => Fin.ext ?_)
  match a with
  | ⟨0, _⟩ =>
    show 0 + 1 * s.val = s.val
    omega
  | ⟨1, _⟩ =>
    show v.toNat + 1 * 0 = v.toNat
    omega
  | ⟨2, _⟩ =>
    show 0 + 1 * x.val = x.val
    omega

theorem chk2_of (f : S1x20000x128.Idx → EReal) (ms : S8x2500.Idx → EReal) (r : ℕ) (hr : r < 16) (b : BitVec 1) :
    k0_chk2 (BitVec.ofNat 32 r) (idxW ms) b := by
  have h1 := idxW_lt ms
  have h2 := toNat_lt16 r hr
  generalize idxW ms = w at h1 ⊢
  generalize BitVec.ofNat 32 r = v at h2 ⊢
  refine ⟨fun _ a => ?_, fun _ a => ?_⟩
  · match a with
    | ⟨0, _⟩ => exact le_refl 1
    | ⟨1, _⟩ =>
      show w.toNat + 1 ≤ 20000
      omega
    | ⟨2, _⟩ => exact le_refl 128
  · match a with
    | ⟨0, _⟩ => exact le_refl 1
    | ⟨1, _⟩ =>
      show v.toNat + 1 ≤ 16
      omega
    | ⟨2, _⟩ => exact le_refl 128

theorem cond1_iff (b : BitVec 1) : k0_cond1 b = 1#1 ↔ b = 1#1 := by revert b; decide
theorem cond2_iff (b : BitVec 1) : k0_cond2 b = 1#1 ↔ ¬b = 1#1 := by revert b; decide

theorem chk1_of (ms : S8x2500.Idx → EReal) (ix : S128x1.Idx → BitVec 32) : k0_chk1 (fnd ms ix) (slotW ms ix) := by
  intro h a
  obtain ⟨hlt, _⟩ := slotW_spec ms ix ((cond1_iff _).mp h)
  generalize slotW ms ix = v at hlt ⊢
  match a with
  | ⟨0, _⟩ => exact le_refl 8
  | ⟨1, _⟩ =>
    show v.toNat + 1 ≤ 128
    omega
  | ⟨2, _⟩ => exact le_refl 2500

end Cert.KernelIdeal.Sel
-- ==== Proof.Turn.lean ====
module

public import proofs.«01_k».proof.Proof.Prog

@[expose] public section

set_option maxRecDepth 16384

noncomputable section

/-! One entry of the selection loop, its three words named. -/

namespace Cert.KernelIdeal.Sel

open Idealize.ShloMosaic TcCoe Cert.KernelIdeal.Gen Idealize.SL.Sem

variable {F : FTy → Type} [FloatOps F]

/-- An entry after its reads: whether the index sought is among the candidates, the index, and its slot. -/
def turn (i : grid0.Coords) (arg6 : Memref sig .tc .vmem S8x2500 .f32) (harg6 : arg6.IsWhole) (v269 : IVec S8x2500 32) (arg8 : Memref sig .tc .vmem S128x1 .i32) (harg8 : arg8.IsWhole) (v270 : IVec S128x1 32) (arg5 : Memref sig .tc .vmem S8x128x2500 .f32) (harg5 : arg5.IsWhole) (arg1 : Memref sig .tc .vmem S1x20000x128 .f32) (harg1 : arg1.IsWhole) (arg2 : Memref sig .tc .vmem S1x16x128 .f32) (harg2 : arg2.IsWhole) (v266 : IVec S8x2500 32) (v275 : IVec S8x1 32) (arg7 : Memref sig .tc .vmem S128x128 .f32) (harg7 : arg7.IsWhole) (arg3 : Memref sig .tc .vmem S20000x128 .bf16) (harg3 : arg3.IsWhole) (arg4 : Memref sig .tc .vmem S20000x128 .bf16) (harg4 : arg4.IsWhole) (arg9 : BitVec 32)
    (ms : Vec F S8x2500 .f32) (b : BitVec 1) (v z : BitVec 32) :
    Prog (TpuEff nD τ sig (Elt F) (Λ₀ F) .tc) (BitVec 32 × BitVec 32) := do
  have hw2 : k0_chk2 arg9 v b := (← Prog.lift (TpuEff.assume (k0_chk2 arg9 v b) (k0_chk2.dec arg9 v b))).down
  have hw1 : k0_chk1 b z := (← Prog.lift (TpuEff.assume (k0_chk1 b z) (k0_chk1.dec b z))).down
  if h1 : k0_cond1 b = 1#1 then do
    let x : Vec F S8x1x2500 .f32 ← Prog.lift (.load arg5 (Rect.unit (s := S8x128x2500) (k0_off1 z) S8x1x2500.size (k0_off1_inb b z hw1 h1)).toLoadRect (View.loadsAt_vmem Facts₀.h_S8x1x2500))
    let _ : Vec F S8x2500 .f32 ← Prog.lift (.load arg6 (Rect.unit (s := S8x2500) ![0, 0] S8x2500.size Facts₀.inb_S8x2500_S8x2500_0_0).toLoadRect (View.loadsAt_vmem Facts₀.h_S8x2500))
    Prog.lift (.store arg6 (Rect.unit (s := S8x2500) ![0, 0] S8x2500.size Facts₀.inb_S8x2500_S8x2500_0_0) (k0_pay5 ms x) Finset.univ (View.stores_vmem_bits_univ Facts₀.h_S8x2500 rfl) (.inl rfl))
    let y : Vec F S1x1x128 .f32 ← Prog.lift (.load arg1 (Rect.unit (s := S1x20000x128) (k0_off2 v) S1x1x128.size (k0_off2_inb arg9 v b hw2 h1)).toLoadRect (View.loadsAt_vmem Facts₀.h_S1x1x128))
    let _ : Vec F S1x1x128 .f32 ← Prog.lift (.load arg2 (Rect.unit (s := S1x16x128) (k0_off3 arg9) S1x1x128.size (k0_off3_inb arg9 v b hw2 h1)).toLoadRect (View.loadsAt_vmem Facts₀.h_S1x1x128))
    Prog.lift (.store arg2 (Rect.unit (s := S1x16x128) (k0_off3 arg9) S1x1x128.size (k0_off3_inb arg9 v b hw2 h1)) (k0_pay6 y) Finset.univ (View.stores_vmem_bits_univ Facts₀.h_S1x1x128 rfl) (.inl rfl))
    pure ⟨⟩
  else do
    pure ⟨⟩
  if h2 : k0_cond2 b = 1#1 then do
    let ⟨v2410, v2501, v2502, cst_1061⟩ : Σ' (v2410 : FVec F S256x128 .bf16) (v2501 : Vec F S2500x128 .bf16) (v2502 : Vec F S2500x128 .bf16), FVec F S256x2500 .f32 ← refillHead arg6 arg8 arg5 arg1 v266 v275 arg7 arg3 arg4 b h2
    let _ : Vec F S1x128x2500 .f32 ← Prog.lift (.load arg5 (simR 6 (by omega)).toLoadRect (View.loadsAt_vmem Facts₀.h_S1x128x2500))
    Prog.lift (.store arg5 (simR 6 (by omega)) (k0_pay7 v2410 v2501 v2502 cst_1061) Finset.univ (View.stores_vmem_bits_univ Facts₀.h_S1x128x2500 rfl) (.inl rfl))
    sims arg5 arg3 arg4 v2410 1 7 (by omega)
  else do
    pure ⟨⟩
  Prog.lift (.call (1 : (Λ₀ F).Label) ⟨i, arg6, harg6, v269, arg8, harg8, v270, arg5, harg5, arg1, harg1, arg2, harg2, v266, v275, arg7, harg7, arg3, harg3, arg4, harg4, Scalar.select b (Scalar.addi arg9 1#32) arg9, 0#32⟩)

theorem while_eq (i : grid0.Coords) (arg6 : Memref sig .tc .vmem S8x2500 .f32) (harg6 : arg6.IsWhole) (v269 : IVec S8x2500 32) (arg8 : Memref sig .tc .vmem S128x1 .i32) (harg8 : arg8.IsWhole) (v270 : IVec S128x1 32) (arg5 : Memref sig .tc .vmem S8x128x2500 .f32) (harg5 : arg5.IsWhole) (arg1 : Memref sig .tc .vmem S1x20000x128 .f32) (harg1 : arg1.IsWhole) (arg2 : Memref sig .tc .vmem S1x16x128 .f32) (harg2 : arg2.IsWhole) (v266 : IVec S8x2500 32) (v275 : IVec S8x1 32) (arg7 : Memref sig .tc .vmem S128x128 .f32) (harg7 : arg7.IsWhole) (arg3 : Memref sig .tc .vmem S20000x128 .bf16) (harg3 : arg3.IsWhole) (arg4 : Memref sig .tc .vmem S20000x128 .bf16) (harg4 : arg4.IsWhole) (arg9 arg10 : BitVec 32) :
    cc0_while1 (F := F) i arg6 harg6 v269 arg8 harg8 v270 arg5 harg5 arg1 harg1 arg2 harg2 v266 v275 arg7 harg7 arg3 harg3 arg4 harg4 arg9 arg10
      = if Scalar.cmpi .slt arg9 16#32 = 1#1 then do
          let ms : Vec F S8x2500 .f32 ← Prog.lift (.load arg6 (Rect.unit (s := S8x2500) ![0, 0] S8x2500.size Facts₀.inb_S8x2500_S8x2500_0_0).toLoadRect (View.loadsAt_vmem Facts₀.h_S8x2500))
          let ix : Vec F S128x1 .i32 ← Prog.lift (.load arg8 (Rect.unit (s := S128x1) ![0, 0] S128x1.size Facts₀.inb_S128x1_S128x1_0_0).toLoadRect (View.loadsAt_vmem Facts₀.h_S128x1))
          turn i arg6 harg6 v269 arg8 harg8 v270 arg5 harg5 arg1 harg1 arg2 harg2 v266 v275 arg7 harg7 arg3 harg3 arg4 harg4 arg9 ms
            (Scalar.cmpf .ogt (k0_pay3 v269 ms ix) (Scalar.ofBits .f32 0x00000000#32))
            (extractAt ![0, 0, 0] (k0_pay1 v269 ms) Facts₀.inpos_S1x1x1_p0_0_0)
            (extractAt ![0, 0, 0] (k0_pay4 v269 v270 ms ix) Facts₀.inpos_S1x1x1_p0_0_0)
        else pure (arg9, arg10) := by
  simp only [cc0_while1_eq_skeleton]
  unfold cc0_while1_skel
  simp only [refill_eq]
  sl_kernel_rfl

end Cert.KernelIdeal.Sel

end
-- ==== Proof.While.lean ====
module

public import proofs.«01_k».proof.Proof.Table
public import proofs.«01_k».proof.Proof.Turn
public import Idealize.ShloMosaic.Lib.Pipeline.Sound
public import Idealize.ShloMosaic.Lib.Pipeline.KitQuiescent
public import Idealize.ShloMosaic.Lib.Tactic

@[expose] public section

set_option maxRecDepth 16384

noncomputable section

/-! The selection loop: each entry writes one selection or fills the candidates' table with the next one in it. -/

namespace Cert.KernelIdeal.Sel

open Idealize.ShloMosaic TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

local notation "𝕄" => MT nD τ sig Unit (Elt Ideal) ℕ UR ℕ

section

variable (c : Dev nD) (arg1 : Memref sig .tc .vmem S1x20000x128 .f32) (arg2 : Memref sig .tc .vmem S1x16x128 .f32)
  (arg3 arg4 : Memref sig .tc .vmem S20000x128 .bf16) (arg5 : Memref sig .tc .vmem S8x128x2500 .f32)
  (arg6 : Memref sig .tc .vmem S8x2500 .f32) (arg7 : Memref sig .tc .vmem S128x128 .f32) (arg8 : Memref sig .tc .vmem S128x1 .i32)
  (f : S1x20000x128.Idx → EReal)

/-- The buffers of the loop at their contents. -/
def held (O : S1x16x128.Idx → EReal) (S : S8x128x2500.Idx → EReal) (ms : S8x2500.Idx → EReal) (cf : S128x128.Idx → EReal)
    (ix : S128x1.Idx → BitVec 32) : sProp 𝕄 :=
  iprop(owns (c : Thread nD τ) (e := .f32) (Val := Elt Ideal) arg1 fullShare f
    ∗ owns (c : Thread nD τ) (e := .f32) (Val := Elt Ideal) arg2 fullShare O
    ∗ owns (c : Thread nD τ) (e := .bf16) (Val := Elt Ideal) arg3 fullShare (fhF f)
    ∗ owns (c : Thread nD τ) (e := .bf16) (Val := Elt Ideal) arg4 fullShare (flF f)
    ∗ owns (c : Thread nD τ) (e := .f32) (Val := Elt Ideal) arg5 fullShare S
    ∗ owns (c : Thread nD τ) (e := .f32) (Val := Elt Ideal) arg6 fullShare ms
    ∗ owns (c : Thread nD τ) (e := .f32) (Val := Elt Ideal) arg7 fullShare cf
    ∗ owns (c : Thread nD τ) (e := .i32) (Val := Elt Ideal) arg8 fullShare ix)

/-- The loop's end: the selections written. -/
def done : sProp 𝕄 :=
  iprop(∃ (S : S8x128x2500.Idx → EReal) (ms : S8x2500.Idx → EReal) (cf : S128x128.Idx → EReal) (ix : S128x1.Idx → BitVec 32),
    held c arg1 arg2 arg3 arg4 arg5 arg6 arg7 arg8 f (outF f) S ms cf ix)

/-- The loop's specification from given contents. -/
def spec (O : S1x16x128.Idx → EReal) (S : S8x128x2500.Idx → EReal) (ms : S8x2500.Idx → EReal) (cf : S128x128.Idx → EReal)
    (ix : S128x1.Idx → BitVec 32) : sWPT 𝕄 (BitVec 32 × BitVec 32) := do
  sWPT.consume (held c arg1 arg2 arg3 arg4 arg5 arg6 arg7 arg8 f O S ms cf ix)
  let r ← sWPT.arbitrary
  sWPT.produce (done c arg1 arg2 arg3 arg4 arg5 arg6 arg7 arg8 f)
  pure r

theorem spec_apply (O : S1x16x128.Idx → EReal) (S : S8x128x2500.Idx → EReal) (ms : S8x2500.Idx → EReal) (cf : S128x128.Idx → EReal)
    (ix : S128x1.Idx → BitVec 32) (K : BitVec 32 × BitVec 32 → sProp 𝕄) :
    spec c arg1 arg2 arg3 arg4 arg5 arg6 arg7 arg8 f O S ms cf ix K
      = iprop(held c arg1 arg2 arg3 arg4 arg5 arg6 arg7 arg8 f O S ms cf ix
        ∗ ∀ r : BitVec 32 × BitVec 32, (done c arg1 arg2 arg3 arg4 arg5 arg6 arg7 arg8 f -∗ K r)) := rfl

/-- A refill's run up to the seventh chunk's similarities. -/
theorem wp_refill (bd : Option ℕ) (v300 : BitVec 1) (h2 : k0_cond2 v300 = 1#1) (O : S1x16x128.Idx → EReal) (S : S8x128x2500.Idx → EReal)
    (ms : S8x2500.Idx → EReal) (cf : S128x128.Idx → EReal) (ix : S128x1.Idx → BitVec 32)
    (K : (Σ' (v2410 : FVec Ideal S256x128 .bf16) (v2501 : Vec Ideal S2500x128 .bf16) (v2502 : Vec Ideal S2500x128 .bf16), FVec Ideal S256x2500 .f32) → sProp 𝕄) :
    iprop(held c arg1 arg2 arg3 arg4 arg5 arg6 arg7 arg8 f O S ms cf ix
        ∗ (held c arg1 arg2 arg3 arg4 arg5 arg6 arg7 arg8 f O
              (putSim (fun i => k0_pay8 (F := Ideal) (k0_pay416 (F := Ideal) (itersCf (F := Ideal) f cols rws 16 0 ms cf)) (rowsOf (fhF f) i) (rowsOf (flF f) i)) 0 6 S)
              ms (itersCf (F := Ideal) f cols rws 16 0 ms cf) (itersIx (F := Ideal) cols rws 16 0 ms ix)
            -∗ K ⟨k0_pay416 (F := Ideal) (itersCf (F := Ideal) f cols rws 16 0 ms cf), rowsOf (fhF f) 6, rowsOf (flF f) 6, constant S256x2500 .f32 0x00000000#32⟩))
      ⊢ wp frame (wpE (defs₀ (F := Ideal)) Variants.nat (c : Thread nD τ) bd) Set.univ
          (refillHead (F := Ideal) arg6 arg8 arg5 arg1 cols rws arg7 arg3 arg4 v300 h2) K := by
  unfold refillHead held
  simp only [Prog.lift, Prog.bind_op, Prog.bind_ret, Prog.pure_eq_ret]
  iintro ⟨⟨H1, H2, H3, H4, H5, H6, H7, H8⟩, HK⟩
  iapply (own_load (c : Thread nD τ) bd) $$ H6
  iintro H6
  rw [load_full]
  rw [wp_bind]
  iapply (wp_iters (F := Ideal) c bd arg8 arg1 arg7 v300 h2 cols rws entry_lt f _ 16 0 _ ms cf ix)
  isplitl [H1]; · iexact H1
  isplitl [H7]; · iexact H7
  isplitl [H8]; · iexact H8
  iintro ⟨H1, H7, H8⟩
  iapply (own_load (c : Thread nD τ) bd) $$ H7
  iintro H7
  rw [load_full]
  rw [wp_bind]
  iapply (wp_sims (F := Ideal) c bd arg5 arg3 arg4 _ (fhF f) (flF f) _ 6 0 _ S)
  isplitl [H3]; · iexact H3
  isplitl [H4]; · iexact H4
  isplitl [H5]; · iexact H5
  iintro ⟨H3, H4, H5⟩
  iapply (own_load (c : Thread nD τ) bd) $$ H3
  iintro H3
  iapply (own_load (c : Thread nD τ) bd) $$ H4
  iintro H4
  rw [load_unit (fhF f) 6 (by omega), load_unit (flF f) 6 (by omega)]
  simp only [Prog.bind]
  rw [wp_ret]; imodintro
  iapply HK
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem slt_test (r : ℕ) (h : r ≤ 16) : Scalar.cmpi .slt (BitVec.ofNat 32 r) 16#32 = 1#1 ↔ r < 16 := by
  interval_cases r <;> decide

theorem zero_of_not_one (b : BitVec 1) : ¬b = 1#1 → b = 0#1 := by revert b; decide

theorem sel_missed (x y : BitVec 32) : Scalar.select 0#1 x y = y := rfl

theorem sel_found (r : ℕ) : Scalar.select 1#1 (Scalar.addi (BitVec.ofNat 32 r) 1#32) (BitVec.ofNat 32 r) = BitVec.ofNat 32 (r + 1) := by
  show BitVec.ofNat 32 r + 1#32 = _
  apply BitVec.eq_of_toNat_eq
  simp [BitVec.toNat_add, BitVec.toNat_ofNat]

variable (i : grid0.Coords) (harg1 : arg1.IsWhole) (harg2 : arg2.IsWhole) (harg3 : arg3.IsWhole) (harg4 : arg4.IsWhole)
  (harg5 : arg5.IsWhole) (harg6 : arg6.IsWhole) (harg7 : arg7.IsWhole) (harg8 : arg8.IsWhole)

/-- An entry of the loop over the kernel's own counting vectors. -/
theorem loop_eq (arg9 arg10 : BitVec 32) :
    cc0_while1 (F := Ideal) i arg6 harg6 k0_pay72 arg8 harg8 slots arg5 harg5 arg1 harg1 arg2 harg2 cols rws arg7 harg7 arg3 harg3 arg4 harg4 arg9 arg10
      = if Scalar.cmpi .slt arg9 16#32 = 1#1 then do
          let ms : Vec Ideal S8x2500 .f32 ← Prog.lift (.load arg6 (Rect.unit (s := S8x2500) ![0, 0] S8x2500.size Facts₀.inb_S8x2500_S8x2500_0_0).toLoadRect (View.loadsAt_vmem Facts₀.h_S8x2500))
          let ix : Vec Ideal S128x1 .i32 ← Prog.lift (.load arg8 (Rect.unit (s := S128x1) ![0, 0] S128x1.size Facts₀.inb_S128x1_S128x1_0_0).toLoadRect (View.loadsAt_vmem Facts₀.h_S128x1))
          turn (F := Ideal) i arg6 harg6 k0_pay72 arg8 harg8 slots arg5 harg5 arg1 harg1 arg2 harg2 cols rws arg7 harg7 arg3 harg3 arg4 harg4 arg9 ms
            (fnd ms ix) (idxW ms) (slotW ms ix)
        else pure (arg9, arg10) :=
  while_eq (F := Ideal) i arg6 harg6 k0_pay72 arg8 harg8 slots arg5 harg5 arg1 harg1 arg2 harg2 cols rws arg7 harg7 arg3 harg3 arg4 harg4 arg9 arg10

set_option maxHeartbeats 1000000 in
/-- The loop's body meets its specification after `r` selections: found, it writes the next selection; not found, it refills the
    table, after which the next is found. -/
theorem spec_le : ∀ (n r : ℕ), r ≤ 16 → ∀ (w : BitVec 32) (O : S1x16x128.Idx → EReal) (S : S8x128x2500.Idx → EReal)
    (cf : S128x128.Idx → EReal) (ix : S128x1.Idx → BitVec 32) (K : BitVec 32 × BitVec 32 → sProp 𝕄),
    (r < 16 → 2 * (16 - r) + (if fnd (msAt f r) ix = 1#1 then 0 else 1) ≤ n) → OutOk f r O → Tab f ix S →
    spec c arg1 arg2 arg3 arg4 arg5 arg6 arg7 arg8 f O S (msAt f r) cf ix K
      ⊢ wp frame (wpE (defs₀ (F := Ideal)) Variants.nat (c : Thread nD τ) (some n)) Set.univ
          (defs₀ (F := Ideal) .tc 1 ⟨i, arg6, harg6, k0_pay72, arg8, harg8, slots, arg5, harg5, arg1, harg1, arg2, harg2, cols, rws,
            arg7, harg7, arg3, harg3, arg4, harg4, BitVec.ofNat 32 r, w⟩) K := by
  intro n
  induction n with
  | zero =>
    intro r hr w O S cf ix K hn hO hT
    have h16 : r = 16 := by
      by_contra hne
      have := hn (by omega)
      omega
    subst h16
    have htest : ¬Scalar.cmpi .slt (BitVec.ofNat 32 16) 16#32 = 1#1 := fun h => absurd ((slt_test 16 (le_refl _)).mp h) (by omega)
    rw [spec_apply]
    show _ ⊢ wp frame (wpE (defs₀ (F := Ideal)) Variants.nat (c : Thread nD τ) (some 0)) Set.univ
      (cc0_while1 i arg6 harg6 k0_pay72 arg8 harg8 slots arg5 harg5 arg1 harg1 arg2 harg2 cols rws
        arg7 harg7 arg3 harg3 arg4 harg4 (BitVec.ofNat 32 16) w) K
    rw [loop_eq]
    simp only [htest, ↓reduceIte, Prog.pure_eq_ret]
    iintro ⟨H, Hk⟩
    rw [wp_ret]; imodintro
    iapply Hk
    unfold done
    rw [out_eq f O hO]
    iexists S, _, cf, ix
    iexact H
  | succ n ih =>
    intro r hr w O S cf ix K hn hO hT
    rw [spec_apply]
    show _ ⊢ wp frame (wpE (defs₀ (F := Ideal)) Variants.nat (c : Thread nD τ) (some (n + 1))) Set.univ
      (cc0_while1 i arg6 harg6 k0_pay72 arg8 harg8 slots arg5 harg5 arg1 harg1 arg2 harg2 cols rws
        arg7 harg7 arg3 harg3 arg4 harg4 (BitVec.ofNat 32 r) w) K
    rw [loop_eq]
    by_cases h16 : r < 16
    · have htest := (slt_test r hr).mpr h16
      have hn := hn h16
      have hturn : ∀ (b : BitVec 1) (v z : BitVec 32), fnd (msAt f r) ix = b → idxW (msAt f r) = v → slotW (msAt f r) ix = z →
          iprop(held c arg1 arg2 arg3 arg4 arg5 arg6 arg7 arg8 f O S (msAt f r) cf ix
            ∗ ∀ r : BitVec 32 × BitVec 32, (done c arg1 arg2 arg3 arg4 arg5 arg6 arg7 arg8 f -∗ K r))
          ⊢ wp frame (wpE (defs₀ (F := Ideal)) Variants.nat (c : Thread nD τ) (some (n + 1))) Set.univ
            (turn (F := Ideal) i arg6 harg6 k0_pay72 arg8 harg8 slots arg5 harg5 arg1 harg1 arg2 harg2 cols rws
              arg7 harg7 arg3 harg3 arg4 harg4 (BitVec.ofNat 32 r) (msAt f r) b v z) K := by
        intro b v z hb hv hz
        have hc2 : k0_chk2 (BitVec.ofNat 32 r) v b := by rw [← hv]; exact chk2_of f (msAt f r) r h16 b
        have hc1 : k0_chk1 b z := by rw [← hb, ← hz]; exact chk1_of (msAt f r) ix
        unfold turn
        simp only [Prog.lift, Prog.bind_op, Prog.bind_ret, Prog.pure_eq_ret]
        iintro ⟨H, HK⟩
        iapply (wp_assume Variants.nat (c : Thread nD τ) (some (n + 1)) Set.univ hc2)
        iapply (wp_assume Variants.nat (c : Thread nD τ) (some (n + 1)) Set.univ hc1)
        by_cases h : b = 1#1
        · have h6 : ∀ i1, k0_pay5 (F := Ideal) (msAt f r) (fun x => S ((Rect.unit (s := S8x128x2500) (k0_off1 z) S8x1x2500.size i1).toLoadRect.idx x))
              = msAt f (r + 1) := by
            rw [← hz]; exact fun i1 => ms_step f (msAt f r) ix S hT (hb.trans h) i1
          have h2 : ∀ i1 i2, OutOk f (r + 1) ((Rect.unit (s := S1x16x128) (k0_off3 (BitVec.ofNat 32 r)) S1x1x128.size i2).overlay O
              (k0_pay6 (F := Ideal) fun x => f ((Rect.unit (s := S1x20000x128) (k0_off2 v) S1x1x128.size i1).toLoadRect.idx x))) := by
            rw [← hv]; exact fun i1 i2 => out_step f r h16 O hO i1 i2
          rw [if_pos (hb.trans h)] at hn
          rw [dif_pos ((cond1_iff b).mpr h), dif_neg (fun h' => (cond2_iff b).mp h' h)]
          simp only [Prog.lift, Prog.bind_op, Prog.bind_ret, Prog.pure_eq_ret]
          subst h
          unfold held
          icases H with ⟨H1, H2, H3, H4, H5, H6, H7, H8⟩
          iapply (own_load (c : Thread nD τ) (some (n + 1))) $$ H5
          iintro H5
          iapply (own_load (c : Thread nD τ) (some (n + 1))) $$ H6
          iintro H6
          iapply (own_store (c : Thread nD τ) (some (n + 1))) $$ H6
          iintro H6
          iapply (own_load (c : Thread nD τ) (some (n + 1))) $$ H1
          iintro H1
          iapply (own_load (c : Thread nD τ) (some (n + 1))) $$ H2
          iintro H2
          iapply (own_store (c : Thread nD τ) (some (n + 1))) $$ H2
          iintro H2
          ihave H6 := (owns_eq (F := Ideal) (c : Thread nD τ) ((overlay_full _ _ _).trans (h6 _))) $$ H6
          rw [sel_found]
          iapply (wp_call_spec Variants.nat (c : Thread nD τ) (some (n + 1)) Set.univ
            (spec c arg1 arg2 arg3 arg4 arg5 arg6 arg7 arg8 f _ S (msAt f (r + 1)) cf ix) n
            (fun u hu => by cases hu; exact Nat.lt_succ_self n)
            (fun K => ih (r + 1) (by omega) _ _ S cf ix K (by intro h'; split <;> omega) (h2 _ _) hT))
          rw [spec_apply]; unfold held
          isplitr [HK]
          · isplitl [H1]; · iexact H1
            isplitl [H2]; · iexact H2
            isplitl [H3]; · iexact H3
            isplitl [H4]; · iexact H4
            isplitl [H5]; · iexact H5
            isplitl [H6]; · iexact H6
            isplitl [H7]; · iexact H7
            iexact H8
          iintro %r' H
          rw [wp_ret]; imodintro
          iapply HK
          iexact H
        · rw [dif_neg (fun h' => h ((cond1_iff b).mp h')), dif_pos ((cond2_iff b).mpr h)]
          simp only [Prog.lift, Prog.bind_op, Prog.bind_ret, Prog.pure_eq_ret]
          rw [if_neg (fun h' => h (hb.symm.trans h'))] at hn
          obtain rfl := zero_of_not_one b h
          rw [wp_bind]
          iapply (wp_refill c arg1 arg2 arg3 arg4 arg5 arg6 arg7 arg8 f (some (n + 1)) 0#1 _ O S (msAt f r) cf ix)
          isplitl [H]; · iexact H
          iintro H
          have hT' := tab_refill f (msAt f r) cf ix
          have hF := iters_found (msAt f r) ix
          generalize itersCf (F := Ideal) f cols rws 16 0 (msAt f r) cf = cf' at hT' ⊢
          generalize itersIx (F := Ideal) cols rws 16 0 (msAt f r) ix = ix' at hT' hF ⊢
          unfold held
          icases H with ⟨H1, H2, H3, H4, H5, H6, H7, H8⟩
          simp only [Prog.lift, Prog.bind_op, Prog.bind_ret, Prog.pure_eq_ret]
          iapply (own_load (c : Thread nD τ) (some (n + 1))) $$ H5
          iintro H5
          iapply (own_store (c : Thread nD τ) (some (n + 1))) $$ H5
          iintro H5
          have hg := simT_eq f cf' S
          generalize hgd : (fun i => k0_pay8 (F := Ideal) (k0_pay416 (F := Ideal) cf') (rowsOf (fhF f) i) (rowsOf (flF f) i)) = g at hg ⊢
          have h7 : k0_pay7 (F := Ideal) (k0_pay416 (F := Ideal) cf') (rowsOf (fhF f) 6) (rowsOf (flF f) 6) (constant S256x2500 .f32 0x00000000#32) = g 6 := by
            rw [← hgd]; exact pay7_eq _ _ _
          have h8 : putSim g 7 1 (putSim g 6 1 (putSim g 0 6 S)) = simT f cf' :=
            (congrArg (putSim g 7 1) (putSim_succ g 0 6 1 S)).trans ((putSim_succ g 0 7 1 S).trans hg)
          have h9 : (simR 6 (by omega)).overlay (putSim g 0 6 S) (k0_pay7 (F := Ideal) (k0_pay416 (F := Ideal) cf') (rowsOf (fhF f) 6)
              (rowsOf (flF f) 6) (constant S256x2500 .f32 0x00000000#32)) = putSim g 6 1 (putSim g 0 6 S) := by
            rw [h7]; exact overlay_sim g 6 (by omega) _
          ihave H5 := (owns_eq (F := Ideal) (c : Thread nD τ) h9) $$ H5
          rw [wp_bind]
          iapply (wp_sims (F := Ideal) c (some (n + 1)) arg5 arg3 arg4 (k0_pay416 (F := Ideal) cf') (fhF f) (flF f) _ 1 7 _ (putSim g 6 1 (putSim g 0 6 S)))
          isplitl [H3]; · iexact H3
          isplitl [H4]; · iexact H4
          isplitl [H5]; · iexact H5
          iintro ⟨H3, H4, H5⟩
          rw [← hgd] at h8
          rw [← hgd]
          ihave H5 := (owns_eq (F := Ideal) (c : Thread nD τ) h8) $$ H5
          rw [sel_missed]
          iapply (wp_call_spec Variants.nat (c : Thread nD τ) (some (n + 1)) Set.univ
            (spec c arg1 arg2 arg3 arg4 arg5 arg6 arg7 arg8 f O (simT f cf') (msAt f r) cf' ix') n
            (fun u hu => by cases hu; exact Nat.lt_succ_self n)
            (fun K => ih r hr _ O (simT f cf') cf' ix' K (by intro h'; rw [if_pos hF]; omega) hO hT'))
          rw [spec_apply]; unfold held
          isplitr [HK]
          · isplitl [H1]; · iexact H1
            isplitl [H2]; · iexact H2
            isplitl [H3]; · iexact H3
            isplitl [H4]; · iexact H4
            isplitl [H5]; · iexact H5
            isplitl [H6]; · iexact H6
            isplitl [H7]; · iexact H7
            iexact H8
          iintro %r' H
          rw [wp_ret]; imodintro
          iapply HK
          iexact H
      simp only [htest, ↓reduceIte, Prog.lift, Prog.bind_op, Prog.bind_ret, Prog.pure_eq_ret]
      unfold held
      iintro ⟨⟨H1, H2, H3, H4, H5, H6, H7, H8⟩, HK⟩
      iapply (own_load (c : Thread nD τ) (some (n + 1))) $$ H6
      iintro H6
      iapply (own_load (c : Thread nD τ) (some (n + 1))) $$ H8
      iintro H8
      rw [load_full, load_full]
      iapply (hturn (fnd (msAt f r) ix) (idxW (msAt f r)) (slotW (msAt f r) ix) (Eq.refl _) (Eq.refl _) (Eq.refl _))
      isplitr [HK]
      · unfold held
        isplitl [H1]; · iexact H1
        isplitl [H2]; · iexact H2
        isplitl [H3]; · iexact H3
        isplitl [H4]; · iexact H4
        isplitl [H5]; · iexact H5
        isplitl [H6]; · iexact H6
        isplitl [H7]; · iexact H7
        iexact H8
      iexact HK
    · have h16 : r = 16 := by omega
      subst h16
      have htest : ¬Scalar.cmpi .slt (BitVec.ofNat 32 16) 16#32 = 1#1 := fun h => absurd ((slt_test 16 (le_refl _)).mp h) (by omega)
      simp only [htest, ↓reduceIte, Prog.pure_eq_ret]
      iintro ⟨H, Hk⟩
      rw [wp_ret]; imodintro
      iapply Hk
      unfold done
      rw [out_eq f O hO]
      iexists S, _, cf, ix
      iexact H

end

end Cert.KernelIdeal.Sel
-- ==== Proof.Body.lean ====
module

public import proofs.«01_k».proof.Proof.While
public import proofs.«01_k».proof.Proof.Gen.KernelIdeal.Launch
public import proofs.«01_k».proof.Proof.Gen.KernelIdeal.Points
public import Idealize.ShloMosaic.Lib.Pipeline.Frame
public import Idealize.ShloMosaic.Lib.Pipeline.FrameBody

@[expose] public section

set_option maxRecDepth 16384

noncomputable section

/-! One grid point of the kernel: the features of one sample in, its selections out. -/

namespace Cert.KernelIdeal.Sel

open Idealize.ShloMosaic TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

local notation "𝕄" => MT nD τ sig Unit (Elt Ideal) ℕ UR ℕ

section

variable (c : Dev nD) (arg1 : Memref sig .tc .vmem S1x20000x128 .f32) (arg2 : Memref sig .tc .vmem S1x16x128 .f32)
  (arg3 arg4 : Memref sig .tc .vmem S20000x128 .bf16) (arg5 : Memref sig .tc .vmem S8x128x2500 .f32)
  (arg6 : Memref sig .tc .vmem S8x2500 .f32) (arg7 : Memref sig .tc .vmem S128x128 .f32) (arg8 : Memref sig .tc .vmem S128x1 .i32)
  (f : S1x20000x128.Idx → EReal)
  (i : grid0.Coords) (harg1 : arg1.IsWhole) (harg2 : arg2.IsWhole) (harg3 : arg3.IsWhole) (harg4 : arg4.IsWhole)
  (harg5 : arg5.IsWhole) (harg6 : arg6.IsWhole) (harg7 : arg7.IsWhole) (harg8 : arg8.IsWhole)

set_option maxHeartbeats 1000000 in
/-- The kernel's body on whole buffers: it ends with the sample's selections in the output. -/
theorem wp_body (O : S1x16x128.Idx → EReal) (fh fl : S20000x128.Idx → EReal) (S : S8x128x2500.Idx → EReal) (ms : S8x2500.Idx → EReal)
    (cf : S128x128.Idx → EReal) (ix : S128x1.Idx → BitVec 32) (K : PUnit → sProp 𝕄) :
    iprop(owns (c : Thread nD τ) (e := .f32) (Val := Elt Ideal) arg1 fullShare f
        ∗ owns (c : Thread nD τ) (e := .f32) (Val := Elt Ideal) arg2 fullShare O
        ∗ owns (c : Thread nD τ) (e := .bf16) (Val := Elt Ideal) arg3 fullShare fh
        ∗ owns (c : Thread nD τ) (e := .bf16) (Val := Elt Ideal) arg4 fullShare fl
        ∗ owns (c : Thread nD τ) (e := .f32) (Val := Elt Ideal) arg5 fullShare S
        ∗ owns (c : Thread nD τ) (e := .f32) (Val := Elt Ideal) arg6 fullShare ms
        ∗ owns (c : Thread nD τ) (e := .f32) (Val := Elt Ideal) arg7 fullShare cf
        ∗ owns (c : Thread nD τ) (e := .i32) (Val := Elt Ideal) arg8 fullShare ix
        ∗ (done c arg1 arg2 arg3 arg4 arg5 arg6 arg7 arg8 f -∗ K ⟨⟩))
      ⊢ wp frame (wpE (defs₀ (F := Ideal)) Variants.nat (c : Thread nD τ) none) Set.univ
          (cc0__body (F := Ideal) i arg1 harg1 arg2 harg2 arg3 harg3 arg4 harg4 arg5 harg5 arg6 harg6 arg7 harg7 arg8 harg8) K := by
  rw [body_eq]
  unfold body
  simp only [Prog.lift, Prog.bind_op, Prog.bind_ret, Prog.pure_eq_ret]
  iintro ⟨H1, H2, H3, H4, H5, H6, H7, H8, HK⟩
  rw [wp_bind]
  iapply (wp_chunks (F := Ideal) c none arg1 arg3 harg3 arg4 harg4 arg6 f _ 8 0 _ fh fl ms)
  isplitl [H1]; · iexact H1
  isplitl [H3]; · iexact H3
  isplitl [H4]; · iexact H4
  isplitl [H6]; · iexact H6
  iintro ⟨H1, H3, H4, H6⟩
  ihave H3 := (owns_eq (F := Ideal) (c : Thread nD τ) (fh_eq f fh)) $$ H3
  ihave H4 := (owns_eq (F := Ideal) (c : Thread nD τ) (fl_eq f fl)) $$ H4
  ihave H6 := (owns_eq (F := Ideal) (c : Thread nD τ) (sal_eq f ms)) $$ H6
  iapply (own_load (c : Thread nD τ) none) $$ H8
  iintro H8
  iapply (own_store (c : Thread nD τ) none) $$ H8
  iintro H8
  ihave H8 := (owns_eq (F := Ideal) (c : Thread nD τ) (overlay_full _ ix k0_pay73)) $$ H8
  iapply (wp_call_spec Variants.nat (c : Thread nD τ) none Set.univ
    (spec c arg1 arg2 arg3 arg4 arg5 arg6 arg7 arg8 f O S (msAt f 0) cf k0_pay73) 33
    (fun u hu => nomatch hu)
    (fun K => spec_le c arg1 arg2 arg3 arg4 arg5 arg6 arg7 arg8 f i harg1 harg2 harg3 harg4 harg5 harg6 harg7 harg8 33 0 (by omega) _ O S cf
      k0_pay73 K (by intro h'; split <;> omega) (fun k d hk => absurd hk (by omega)) (tab_start f S)))
  rw [spec_apply]; unfold held
  isplitr [HK]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iintro %r' H
  rw [wp_ret]; imodintro
  iapply HK
  iexact H

end

variable (m : (ℓ : Loc nD τ sig) → Buf (Elt Ideal) ℓ)

/-- The features of the sample at a grid point. -/
def block (c : Dev nD) (t : Fin grid0.N) : S1x20000x128.Idx → EReal :=
  (win0_0.blk t).view.read (Elt Ideal) (m ((c : Thread nD τ).loc main_arg1))

/-- The launch's proof data: each point leaves its selections in the output's block. -/
def dats (_ : Fin 1) (c : Dev nD) : Dat τ (Elt Ideal) Unit ℕ UR ℕ (cfg0 (F := Ideal)) c where
  A w := m (((cfg0 (F := Ideal)).win w).arr.view.loc (c : Thread nD τ))
  after w t := match w with
    | 0 => block m c t
    | 1 => outF (block m c t)
  Φ _ := Pipeline.ΦA spec0 c
  q _ := fullShare
  owed _ := 0

/-- What the body is called with at a grid point. -/
def bodyPre (c : Dev nD) (t : Fin (cfg0 (F := Ideal)).N) : sProp 𝕄 :=
  iprop((dats m 0 c).Φ t.castSucc ∗ (dats m 0 c).owesAt () t.castSucc
    ∗ (∃ d, owns (c : Thread nD τ) (st0_0 t) fullShare ((dats m 0 c).before (0 : Fin 2) t d))
    ∗ (∃ d, owns (c : Thread nD τ) (st0_1 t) fullShare ((dats m 0 c).before (1 : Fin 2) t d)))

/-- What the body returns at a grid point. -/
def bodyPost (c : Dev nD) (t : Fin (cfg0 (F := Ideal)).N) : sProp 𝕄 :=
  iprop((dats m 0 c).Φ t.succ ∗ (dats m 0 c).owesAt () t.succ
    ∗ owns (c : Thread nD τ) (st0_0 t) fullShare (block m c t)
    ∗ owns (c : Thread nD τ) (st0_1 t) fullShare (outF (block m c t)))

theorem before_in (c : Dev nD) (t : Fin (cfg0 (F := Ideal)).N) (d) : (dats m 0 c).before (0 : Fin 2) t d = block m c t := by
  unfold Dat.before; rw [if_pos (fetch0_0 t)]; rfl

set_option maxHeartbeats 1000000 in
theorem sound_body (c : Dev nD) (t : Fin (cfg0 (F := Ideal)).N) :
    bodyPre m c t ⊢ wp frame (wpE (defs₀ (F := Ideal)) Variants.nat c none) Set.univ (bodyAt0 (F := Ideal) t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  unfold Pipeline.ΦA
  rw [scopedRest0_eq]
  simp only [← owns_whole]
  iintro ⟨⟨⟨⟨%f0, S0⟩, ⟨%f1, S1⟩, ⟨%f2, S2⟩, ⟨%f3, S3⟩, ⟨%f4, S4⟩, ⟨%f5, S5⟩⟩, Hg⟩, HO, ⟨%d0, H0⟩, ⟨%d1, H1⟩⟩
  rw [before_in]
  iapply (wp_body c _ _ _ _ _ _ _ _ (block m c t) (grid0.coords t) _ _ _ _ _ _ _ _ _ f0 f1 f2 f3 f4 f5 _)
  isplitl [H0]; · iexact H0
  isplitl [H1]; · iexact H1
  isplitl [S0]; · iexact S0
  isplitl [S1]; · iexact S1
  isplitl [S2]; · iexact S2
  isplitl [S3]; · iexact S3
  isplitl [S4]; · iexact S4
  isplitl [S5]; · iexact S5
  unfold done held
  iintro ⟨%S, %ms, %cf, %ix, H0, H1, S0, S1, S2, S3, S4, S5⟩
  isplitr [HO H0 H1]
  · isplitr [Hg]
    · isplitl [S0]; · iexists _; iexact S0
      isplitl [S1]; · iexists _; iexact S1
      isplitl [S2]; · iexists _; iexact S2
      isplitl [S3]; · iexists _; iexact S3
      isplitl [S4]; · iexists _; iexact S4
      iexists _; iexact S5
    iexact Hg
  isplitl [HO]; · iexact HO
  isplitl [H0]; · iexact H0
  iexact H1

theorem defs₀_row (t : Fin (cfg0 (F := Ideal)).N) :
    defs₀ (F := Ideal) .tc (cfg0 (F := Ideal)).body ((cfg0 (F := Ideal)).bodyArgs t ((cfg0 (F := Ideal)).slots t)) = bodyAt0 t := by
  unfold defs₀; rw [Defs.onTc_tc]

theorem body_obligation (c : Dev nD) : BodyObligation (dats m 0 c) (defs₀ (F := Ideal)) Variants.nat () Set.univ := fun t => by
  rw [bigSep_W0, bigSep_W0, defs₀_row]
  exact triple_restated (sound_body m c t) rfl .rfl fun _ => .rfl

set_option backward.isDefEq.respectTransparency.types false in
/-- Every run ends, the output's array and the other buffers as the launch's proof data say, no semaphore left up. -/
theorem run_main (g : Dev nD → PrngReg) :
    θ_run (defs (F := Ideal)) (onTc (τ := τ) (main (F := Ideal))) ⟨m, fun _ => 0, g⟩
      (fun r => Pipeline.FramePost (cfgs (F := Ideal)) (dats m) 0 (fun c b => m ((c : Thread nD τ).loc b)) r ∧ r.2.sem = fun _ => 0) :=
  Pipeline.θ_run_frame (Q' := _) (cfgs (F := Ideal)) (dats m) (0 : Fin 1) launch0 (defs₀ (F := Ideal)) Variants.nat m g (main (F := Ideal))
    (hbody := fun c => (body_obligation m c).loose) (hshare := fun c => (dats m 0 c).share_full fun _ => rfl)
    (howed := fun _ _ => rfl) (V := fun c b => m ((c : Thread nD τ).loc b))
    (hmain := Pipeline.hmain_region cfgs 0 (defs₀ (F := Ideal)) Variants.nat m main fun c => (main_chain c).trans rfl) (hA := fun _ _ => rfl)
    (hΦ := fun _ _ => rfl)

end Cert.KernelIdeal.Sel

end
-- ==== Proof.Run.lean ====
module

public import proofs.«01_k».proof.Proof.Body
public import Idealize.ShloMosaic.Lib.Pipeline.ValueKit

@[expose] public section

set_option maxRecDepth 16384

noncomputable section

/-! What the kernel's run leaves in memory. -/

namespace Cert.KernelIdeal.Sel

open Idealize.ShloMosaic TcCoe Cert.KernelIdeal.Gen
open Idealize.SL Idealize.SL.Sem
open Idealize.ShloMosaic.Pipeline (Dat Cfg Window)

variable (m : (ℓ : Loc nD τ sig) → Buf (Elt Ideal) ℓ)

/-- The features of one sample. -/
def sample (x : S8x20000x128.Idx → EReal) (b : Fin 8) : S1x20000x128.Idx → EReal := fun j => x (ix3 b (j 1) (j 2))

/-- Every sample's selections. -/
def outAll (x : S8x20000x128.Idx → EReal) : S8x16x128.Idx → EReal :=
  fun j => outF (sample x (j 0)) (ix3 (0 : Fin 1) (j 1) (j 2))

theorem index0 : ∀ t : Fin grid0.N, win0_0.index t = ![(grid0.coords t 0).val, 0, 0] := by decide +kernel
theorem index1 : ∀ t : Fin grid0.N, win0_1.index t = ![(grid0.coords t 0).val, 0, 0] := by decide +kernel

theorem block_eq (c : Dev nD) (t : Fin grid0.N) : block m c t = sample (m ((c : Thread nD τ).loc main_arg1)) (grid0.coords t 0) := by
  funext j
  obtain ⟨j0, j1, j2, rfl⟩ : ∃ (a : Fin 1) (b : Fin 20000) (c : Fin 128), j = ix3 a b c := ⟨j 0, j 1, j 2, eq_ix3 j⟩
  unfold block sample
  blk_ext [index0]

theorem out_val (c : Dev nD) : (dats m 0 c).arrAt (1 : Fin 2) (cfg0 (F := Ideal)).N = outAll (m ((c : Thread nD τ).loc main_arg1)) := by
  refine (dats m 0 c).arrAt_eq_of_covers 1 _ (by decide +kernel) fun t hf y => ?_
  blk_simp
  rw [show (dats m 0 c).after (1 : Fin 2) t = outF (block m c t) from rfl, block_eq]
  obtain ⟨y0, y1, y2, rfl⟩ : ∃ (a : Fin 1) (b : Fin 16) (c : Fin 128), y = ix3 a b c := ⟨y 0, y 1, y 2, eq_ix3 y⟩
  have e : (win0_1.blk t).view.emb (ix3 y0 y1 y2) = ix3 (grid0.coords t 0) y1 y2 := by blk_ext [index1]
  have e0 : y0 = 0 := Subsingleton.elim _ _
  refine Eq.trans ?_ (congrArg (outAll (m ((c : Thread nD τ).loc main_arg1))) e.symm)
  rw [e0]
  rfl

/-- Every run ends with every sample's selections in the result, the arguments as they were, no semaphore left up. -/
theorem run (g : Dev nD → PrngReg) :
    θ_run (defs (F := Ideal)) (onTc (τ := τ) (main (F := Ideal))) ⟨m, fun _ => 0, g⟩
      (fun r => (∀ c : Dev nD, r.2.mem (c.tc.loc main_v0) = outAll (m (c.tc.loc main_arg1))
        ∧ r.2.mem (c.tc.loc main_arg0) = m (c.tc.loc main_arg0) ∧ r.2.mem (c.tc.loc main_arg1) = m (c.tc.loc main_arg1))
        ∧ r.2.sem = fun _ => 0) := by
  refine θ_run_mono (run_main m g) fun r h => ⟨fun c => ⟨?_, ?_, ?_⟩, h.2⟩
  · exact ((h.1 c).1 (1 : Fin 2)).trans (out_val m c)
  · exact (h.1 c).2 main_arg0 (Pipeline.mem_restRefs_of main_arg0 (by decide) (by decide))
  · exact ((h.1 c).1 (0 : Fin 2)).trans ((dats m 0 c).arrAt_in (0 : Fin 2) rfl _)

end Cert.KernelIdeal.Sel

end
-- ==== Proof.Ref.Run.lean ====
module

public import proofs.«01_k».proof.Proof.Gen.ReferenceIdeal
public import Idealize.ShloMosaic.Lib.StableHlo.RunLoop
public import Idealize.ShloMosaic.Lib.StableHlo.RunHlo
public import Idealize.ShloMosaic.Lib.StableHlo.ReadAt
public import Idealize.ShloMosaic.Lib.Scf.ExitTest
public import Idealize.ShloMosaic.Lib.Quiescent
public import Idealize.ShloMosaic.Lib.Tactic
public import Idealize.ShloMosaic.PureOps.Ideal

@[expose] public section

set_option maxRecDepth 16384

noncomputable section

namespace Cert.ReferenceIdeal.Sel

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
open Idealize.ShloMosaic.Pipeline (ucRefs sub_ucRefs)

variable {F : FTy → Type} [FloatOps F]

/-- A program that is a line of host operations, with that line. -/
def line {Λ : Labels} {p : Prog (TpuEff nD τ sig (Elt F) Λ .tc) PUnit}
    {ops : List (HloOp τ sig (Elt F))} (h : IsSeq p ops) : { ops : List (HloOp τ sig (Elt F)) // IsSeq p ops } := ⟨ops, h⟩

/-- The body of the loop, as the list of its operations. -/
def bodySeq : { ops : List (HloOp τ sig (Elt F)) // IsSeq (main_while0_body (F := F)) ops } := by
  apply line
  unfold main_while0_body fn_argmax.body fn_norm_1.body fn_clip.body fn_where.body
  simp only [bind_assoc, pure_bind]
  hlo_seq

/-- What runs before the loop. -/
def preProg : Prog (TpuEff nD τ sig (Elt F) (HostLoop.Sig (Pipeline.Sig Λ₀ (Fin 0) fun p => (pcfgs (F := F) p).Adm) 1) .tc) PUnit := do
  fn_norm.body (.of main_arg1) main_call0
  hlo rfl (StableHlo.nullary main_cst (constant S_ .f32 0x2B8CBCCC#32)) (fun _ => .ret ⟨⟩)
  hlo rfl (StableHlo.unary main_cst main_v1 (broadcastInDim S8x20000x1 ![] Facts₀.bcast_S_S8x20000x1 : (⟨S_, .f32⟩ : BufTy).Contents (Elt F) → (⟨S8x20000x1, .f32⟩ : BufTy).Contents (Elt F))) (fun _ => .ret ⟨⟩)
  hlo rfl (StableHlo.binary main_v0 main_v1 main_v2 (maximumf : (⟨S8x20000x1, .f32⟩ : BufTy).Contents (Elt F) → (⟨S8x20000x1, .f32⟩ : BufTy).Contents (Elt F) → (⟨S8x20000x1, .f32⟩ : BufTy).Contents (Elt F))) (fun _ => .ret ⟨⟩)
  hlo rfl (StableHlo.unary main_v2 main_v3 (broadcastInDim S8x20000x128 ![0, 1, 2] Facts₀.bcast_S8x20000x1_S8x20000x128_0_1_2 : (⟨S8x20000x1, .f32⟩ : BufTy).Contents (Elt F) → (⟨S8x20000x128, .f32⟩ : BufTy).Contents (Elt F))) (fun _ => .ret ⟨⟩)
  hlo rfl (StableHlo.binary main_arg1 main_v3 main_v4 (Host.divf : (⟨S8x20000x128, .f32⟩ : BufTy).Contents (Elt F) → (⟨S8x20000x128, .f32⟩ : BufTy).Contents (Elt F) → (⟨S8x20000x128, .f32⟩ : BufTy).Contents (Elt F))) (fun _ => .ret ⟨⟩)
  fn_norm_0.body (.of main_arg1) main_call1
  hlo rfl (StableHlo.nullary main_cst_0 (constant S_ .f32 0x3F800000#32)) (fun _ => .ret ⟨⟩)
  hlo rfl (StableHlo.unary main_cst_0 main_v6 (broadcastInDim S8x20000 ![] Facts₀.bcast_S_S8x20000 : (⟨S_, .f32⟩ : BufTy).Contents (Elt F) → (⟨S8x20000, .f32⟩ : BufTy).Contents (Elt F))) (fun _ => .ret ⟨⟩)
  hlo rfl (StableHlo.nullary main_v7 (iotaInDim S8 32 0)) (fun _ => .ret ⟨⟩)
  hlo rfl (StableHlo.nullary main_v8 (iotaInDim S16 32 0)) (fun _ => .ret ⟨⟩)
  hlo rfl (StableHlo.unary main_v8 main_v9 (broadcastInDim S1x16x1 ![1] Facts₀.bcast_S16_S1x16x1_1 : (⟨S16, .i32⟩ : BufTy).Contents (Elt F) → (⟨S1x16x1, .i32⟩ : BufTy).Contents (Elt F))) (fun _ => .ret ⟨⟩)
  hlo rfl (StableHlo.nullary main_cst_1 (constant S_ .f32 0x00000000#32)) (fun _ => .ret ⟨⟩)
  hlo rfl (StableHlo.unary main_cst_1 main_v10 (broadcastInDim S8x16x128 ![] Facts₀.bcast_S_S8x16x128 : (⟨S_, .f32⟩ : BufTy).Contents (Elt F) → (⟨S8x16x128, .f32⟩ : BufTy).Contents (Elt F))) (fun _ => .ret ⟨⟩)
  hlo rfl (StableHlo.nullary main_c (constantI S_ 32 0#32)) (fun _ => .ret ⟨⟩)
  hlo rfl (StableHlo.nullary main_c_2 (constantI S_ 32 0#32)) (fun _ => .ret ⟨⟩)
  hlo rfl (StableHlo.unary main_v5 main_v11_0 id) (fun _ => .ret ⟨⟩)
  hlo rfl (StableHlo.unary main_v7 main_v11_1 id) (fun _ => .ret ⟨⟩)
  hlo rfl (StableHlo.unary main_arg1 main_v11_2 id) (fun _ => .ret ⟨⟩)
  hlo rfl (StableHlo.unary main_v4 main_v11_3 id) (fun _ => .ret ⟨⟩)
  hlo rfl (StableHlo.unary main_v9 main_v11_4 id) (fun _ => .ret ⟨⟩)
  hlo rfl (StableHlo.unary main_c_2 main_v11_5 id) (fun _ => .ret ⟨⟩)
  hlo rfl (StableHlo.unary main_c main_v11_6 id) (fun _ => .ret ⟨⟩)
  hlo rfl (StableHlo.unary main_v6 main_v11_7 id) (fun _ => .ret ⟨⟩)
  hlo rfl (StableHlo.unary main_v10 main_v11_8 id) (fun _ => .ret ⟨⟩)
  pure ⟨⟩

theorem main_eq (d : Dev nD) : main (F := F) d = preProg >>= fun _ => HostLoop.enter 0 >>= fun _ => pure ⟨⟩ := by
  unfold main preProg
  simp only [bind_assoc, pure_bind]

/-- What runs before the loop, as the list of its operations. -/
def preSeq : { ops : List (HloOp τ sig (Elt F)) // IsSeq (preProg (F := F)) ops } := by
  apply line
  unfold preProg fn_norm.body fn_norm_0.body
  simp only [bind_assoc, pure_bind]
  hlo_seq

def preOps : List (HloOp τ sig (Elt F)) := preSeq.1
def bodyOps : List (HloOp τ sig (Elt F)) := bodySeq.1
/-- The loop's test. -/
def condOps : List (HloOp τ sig (Elt F)) :=
  [StableHlo.nullary main_while0c_c_11 (constantI S_ 32 16#32),
   StableHlo.binary main_v11_5 main_while0c_c_11 main_while0c_v12 (cmpi .slt : (⟨S_, .i32⟩ : BufTy).Contents (Elt F) → (⟨S_, .i32⟩ : BufTy).Contents (Elt F) → (⟨S_, .i1⟩ : BufTy).Contents (Elt F))]

/-! ## What the operations compute -/

/-- Each row's norm. -/
def norms (f : FVec F S8x20000x128 .f32) : FVec F S8x20000 .f32 :=
  Host.sqrt (Host.reduceAdd (mulf f f) (constant S_ .f32 0#32) Facts₀.reducesTo_S8x20000x128_S8x20000_d2 Facts₀.h_S_)

/-- The rows over their norms. -/
def units (f : FVec F S8x20000x128 .f32) : FVec F S8x20000x128 .f32 :=
  Host.divf f (broadcastInDim S8x20000x128 ![0, 1, 2] Facts₀.bcast_S8x20000x1_S8x20000x128_0_1_2
    (maximumf (Host.sqrt (broadcastInDim S8x20000x1 ![0, 1] Facts₀.bcast_S8x20000_S8x20000x1_0_1
        (Host.reduceAdd (mulf f f) (constant S_ .f32 0#32) Facts₀.reducesTo_S8x20000x128_S8x20000_d2 Facts₀.h_S_)))
      (broadcastInDim S8x20000x1 ![] Facts₀.bcast_S_S8x20000x1 (constant S_ .f32 0x2B8CBCCC#32))))

/-- The index of each batch's greatest masked saliency. -/
def top (sal mask : FVec F S8x20000 .f32) : IVec S8 32 :=
  fun j => (Host.argReduce reducer_argmax_f32_i32 (mulf sal mask) (iotaInDim S8x20000 32 1)
    (constant S_ .f32 0xFF800000#32) (constantI S_ 32 0#32) Facts₀.reducesTo_S8x20000_S8_d1 Facts₀.h_S_ j).2

/-- An index read from the end when it is negative. -/
def wrap (n : BitVec 32) (i : IVec S8 32) : IVec S8 32 :=
  select (cmpi .slt i (broadcastInDim S8 ![] Facts₀.bcast_S_S8 (constantI S_ 32 0#32)))
    (addi i (broadcastInDim S8 ![] Facts₀.bcast_S_S8 (constantI S_ 32 n))) i

/-- Two columns side by side. -/
def cols (a b : IVec S8x1 32) : IVec S8x2 32 :=
  concatenate S8x2 1 [⟨S8x1, a⟩, ⟨S8x1, b⟩] Facts₀.concatenates_S8x1_S8x1_S8x2_d1

theorem cols_eq (a b : IVec S8x1 32) :
    concatenate S8x2 1 [⟨S8x1, a⟩, ⟨S8x1, b⟩] Facts₀.concatenates_S8x1_S8x1_S8x2_d1 = cols a b := rfl

/-- The chosen rows. -/
def rows (f : FVec F S8x20000x128 .f32) (bs is : IVec S8 32) : FVec F S8x128 .f32 :=
  Host.gather gather_S8x20000x128_S8x2_S8x128_1_01_n_n_01_1_11128 f
    (cols (broadcastInDim S8x1 ![0] Facts₀.bcast_S8_S8x1_0 (wrap 8#32 bs))
      (broadcastInDim S8x1 ![0] Facts₀.bcast_S8_S8x1_0 (wrap 20000#32 is)))

/-- The chosen rows over their norms. -/
def rowUnits (x : FVec F S8x128 .f32) : FVec F S8x128 .f32 :=
  Host.divf x (broadcastInDim S8x128 ![0, 1] Facts₀.bcast_S8x1_S8x128_0_1
    (maximumf (Host.sqrt (broadcastInDim S8x1 ![0] Facts₀.bcast_S8_S8x1_0
        (Host.reduceAdd (mulf x x) (constant S_ .f32 0#32) Facts₀.reducesTo_S8x128_S8_d1 Facts₀.h_S_)))
      (broadcastInDim S8x1 ![] Facts₀.bcast_S_S8x1 (constant S_ .f32 0x2B8CBCCC#32))))

/-- Every row's similarity to the chosen row. -/
def sims (fn : FVec F S8x20000x128 .f32) (x : FVec F S8x128 .f32) : FVec F S8x20000 .f32 :=
  Host.reduceAdd (mulf fn (broadcastInDim S8x20000x128 ![0, 1, 2] Facts₀.bcast_S8x1x128_S8x20000x128_0_1_2
      (broadcastInDim S8x1x128 ![0, 2] Facts₀.bcast_S8x128_S8x1x128_0_2 (rowUnits x))))
    (constant S_ .f32 0#32) Facts₀.reducesTo_S8x20000x128_S8x20000_d2 Facts₀.h_S_

/-- What a similarity leaves of the mask. -/
def keep (s : FVec F S8x20000 .f32) : FVec F S8x20000 .f32 :=
  subf (broadcastInDim S8x20000 ![] Facts₀.bcast_S_S8x20000 (constant S_ .f32 0x3F800000#32))
    (minimumf (broadcastInDim S8x20000 ![] Facts₀.bcast_S_S8x20000 (constant S_ .f32 0x3F800000#32))
      (maximumf (broadcastInDim S8x20000 ![] Facts₀.bcast_S_S8x20000 (constant S_ .f32 0#32)) s))

/-- The slots' numbers. -/
def slotIds : IVec S1x16x1 32 := broadcastInDim S1x16x1 ![1] Facts₀.bcast_S16_S1x16x1_1 (iotaInDim S16 32 0)

/-- The slots with the chosen rows stored at slot `r`. -/
def store (ids : IVec S1x16x1 32) (r : IVec S_ 32) (slots : FVec F S8x16x128 .f32) (x : FVec F S8x128 .f32) : FVec F S8x16x128 .f32 :=
  select (broadcastInDim S8x16x128 ![0, 1, 2] Facts₀.bcast_S1x16x1_S8x16x128_0_1_2
      (cmpi .eq ids (broadcastInDim S1x16x1 ![] Facts₀.bcast_S_S1x16x1 r)))
    (broadcastInDim S8x16x128 ![0, 1, 2] Facts₀.bcast_S8x1x128_S8x16x128_0_1_2
      (broadcastInDim S8x1x128 ![0, 2] Facts₀.bcast_S8x128_S8x1x128_0_2 x)) slots

theorem body_ctr (V : Valuation τ sig (Elt F)) : after bodyOps (after condOps V) (Proc.devRef .tc main_v11_5)
    = addi (V (Proc.devRef .tc main_v11_5)) (constantI S_ 32 1#32) := by
  unfold bodyOps condOps bodySeq line
  after_reads_simp
  rfl

theorem body_r (V : Valuation τ sig (Elt F)) : after bodyOps (after condOps V) (Proc.devRef .tc main_v11_6)
    = addi (V (Proc.devRef .tc main_v11_6)) (constantI S_ 32 1#32) := by
  unfold bodyOps condOps bodySeq line
  after_reads_simp
  rfl

theorem body_rows (V : Valuation τ sig (Elt F)) : after bodyOps (after condOps V) (Proc.devRef .tc main_while0b_v28)
    = rows (V (Proc.devRef .tc main_v11_2)) (V (Proc.devRef .tc main_v11_1))
        (top (V (Proc.devRef .tc main_v11_0)) (V (Proc.devRef .tc main_v11_7))) := by
  unfold bodyOps condOps bodySeq line
  after_reads_simp
  simp only [cols_eq]
  after_reads_simp
  rfl

theorem body_mask (V : Valuation τ sig (Elt F)) : after bodyOps (after condOps V) (Proc.devRef .tc main_v11_7)
    = mulf (V (Proc.devRef .tc main_v11_7)) (keep (sims (V (Proc.devRef .tc main_v11_3)) (rows (V (Proc.devRef .tc main_v11_2)) (V (Proc.devRef .tc main_v11_1))
        (top (V (Proc.devRef .tc main_v11_0)) (V (Proc.devRef .tc main_v11_7)))))) := by
  unfold bodyOps condOps bodySeq line
  after_reads_simp
  simp only [cols_eq]
  after_reads_simp
  rfl

theorem body_slots (V : Valuation τ sig (Elt F)) : after bodyOps (after condOps V) (Proc.devRef .tc main_v11_8)
    = store (V (Proc.devRef .tc main_v11_4)) (V (Proc.devRef .tc main_v11_6)) (V (Proc.devRef .tc main_v11_8))
      (rows (V (Proc.devRef .tc main_v11_2)) (V (Proc.devRef .tc main_v11_1))
        (top (V (Proc.devRef .tc main_v11_0)) (V (Proc.devRef .tc main_v11_7)))) := by
  unfold bodyOps condOps bodySeq line
  after_reads_simp
  simp only [cols_eq]
  after_reads_simp
  rfl

theorem body_keep (V : Valuation τ sig (Elt F)) :
    after bodyOps (after condOps V) (Proc.devRef .tc main_v11_0) = V (Proc.devRef .tc main_v11_0)
    ∧ after bodyOps (after condOps V) (Proc.devRef .tc main_v11_1) = V (Proc.devRef .tc main_v11_1)
    ∧ after bodyOps (after condOps V) (Proc.devRef .tc main_v11_2) = V (Proc.devRef .tc main_v11_2)
    ∧ after bodyOps (after condOps V) (Proc.devRef .tc main_v11_3) = V (Proc.devRef .tc main_v11_3)
    ∧ after bodyOps (after condOps V) (Proc.devRef .tc main_v11_4) = V (Proc.devRef .tc main_v11_4)
    ∧ after bodyOps (after condOps V) (Proc.devRef .tc main_arg0) = V (Proc.devRef .tc main_arg0)
    ∧ after bodyOps (after condOps V) (Proc.devRef .tc main_arg1) = V (Proc.devRef .tc main_arg1) := by
  unfold bodyOps condOps bodySeq line
  refine ⟨?_, ?_, ?_, ?_, ?_, ?_, ?_⟩ <;> after_reads_simp

theorem cond_keep (V : Valuation τ sig (Elt F)) :
    after condOps V (Proc.devRef .tc main_v11_8) = V (Proc.devRef .tc main_v11_8)
    ∧ after condOps V (Proc.devRef .tc main_arg0) = V (Proc.devRef .tc main_arg0)
    ∧ after condOps V (Proc.devRef .tc main_arg1) = V (Proc.devRef .tc main_arg1) := by
  unfold condOps
  refine ⟨?_, ?_, ?_⟩ <;> after_reads_simp

theorem pre_sal (V : Valuation τ sig (Elt F)) : after preOps V (Proc.devRef .tc main_v11_0) = norms (V (Proc.devRef .tc main_arg1)) := by
  unfold preOps preSeq line
  after_reads_simp
  rfl
theorem pre_bs (V : Valuation τ sig (Elt F)) : after preOps V (Proc.devRef .tc main_v11_1) = (iotaInDim S8 32 0 : IVec S8 32) := by
  unfold preOps preSeq line
  after_reads_simp
  rfl
theorem pre_f (V : Valuation τ sig (Elt F)) : after preOps V (Proc.devRef .tc main_v11_2) = V (Proc.devRef .tc main_arg1) := by
  unfold preOps preSeq line
  after_reads_simp
  rfl
theorem pre_fn (V : Valuation τ sig (Elt F)) : after preOps V (Proc.devRef .tc main_v11_3) = units (V (Proc.devRef .tc main_arg1)) := by
  unfold preOps preSeq line
  after_reads_simp
  rfl
theorem pre_ids (V : Valuation τ sig (Elt F)) : after preOps V (Proc.devRef .tc main_v11_4) = slotIds := by
  unfold preOps preSeq line
  after_reads_simp
  rfl
theorem pre_ctr (V : Valuation τ sig (Elt F)) : after preOps V (Proc.devRef .tc main_v11_5) = constantI S_ 32 0#32 := by
  unfold preOps preSeq line
  after_reads_simp
  rfl
theorem pre_r (V : Valuation τ sig (Elt F)) : after preOps V (Proc.devRef .tc main_v11_6) = constantI S_ 32 0#32 := by
  unfold preOps preSeq line
  after_reads_simp
  rfl
theorem pre_mask (V : Valuation τ sig (Elt F)) : after preOps V (Proc.devRef .tc main_v11_7)
    = (broadcastInDim S8x20000 ![] Facts₀.bcast_S_S8x20000 (constant S_ .f32 0x3F800000#32) : FVec F S8x20000 .f32) := by
  unfold preOps preSeq line
  after_reads_simp
  rfl
theorem pre_slots (V : Valuation τ sig (Elt F)) : after preOps V (Proc.devRef .tc main_v11_8)
    = (broadcastInDim S8x16x128 ![] Facts₀.bcast_S_S8x16x128 (constant S_ .f32 0#32) : FVec F S8x16x128 .f32) := by
  unfold preOps preSeq line
  after_reads_simp
  rfl
theorem pre_args (V : Valuation τ sig (Elt F)) : after preOps V (Proc.devRef .tc main_arg0) = V (Proc.devRef .tc main_arg0)
    ∧ after preOps V (Proc.devRef .tc main_arg1) = V (Proc.devRef .tc main_arg1) := by
  unfold preOps preSeq line
  refine ⟨?_, ?_⟩ <;> after_reads_simp

/-! ## The trips -/

/-- The mask before trip `k`. -/
def maskAt (f : FVec F S8x20000x128 .f32) : ℕ → FVec F S8x20000 .f32
  | 0 => broadcastInDim S8x20000 ![] Facts₀.bcast_S_S8x20000 (constant S_ .f32 0x3F800000#32)
  | k + 1 => mulf (maskAt f k) (keep (sims (units f) (rows f (iotaInDim S8 32 0) (top (norms f) (maskAt f k)))))

/-- The rows trip `k` chooses. -/
def rowsAt (f : FVec F S8x20000x128 .f32) (k : ℕ) : FVec F S8x128 .f32 :=
  rows f (iotaInDim S8 32 0) (top (norms f) (maskAt f k))

/-- The slots before trip `k`. -/
def slotsAt (f : FVec F S8x20000x128 .f32) : ℕ → FVec F S8x16x128 .f32
  | 0 => broadcastInDim S8x16x128 ![] Facts₀.bcast_S_S8x16x128 (constant S_ .f32 0#32)
  | k + 1 => store slotIds (constantI S_ 32 (BitVec.ofNat 32 k)) (slotsAt f k) (rowsAt f k)

/-- What holds before the test runs for the `k`-th time. -/
structure Before (V₀ : Valuation τ sig (Elt F)) (f : FVec F S8x20000x128 .f32) (V : Valuation τ sig (Elt F)) (k : ℕ) : Prop where
  sal : V (Proc.devRef .tc main_v11_0) = norms f
  bs : V (Proc.devRef .tc main_v11_1) = (iotaInDim S8 32 0 : IVec S8 32)
  feat : V (Proc.devRef .tc main_v11_2) = f
  unit : V (Proc.devRef .tc main_v11_3) = units f
  ids : V (Proc.devRef .tc main_v11_4) = slotIds
  ctr : V (Proc.devRef .tc main_v11_5) = constantI S_ 32 (BitVec.ofNat 32 k)
  rnd : V (Proc.devRef .tc main_v11_6) = constantI S_ 32 (BitVec.ofNat 32 k)
  mask : V (Proc.devRef .tc main_v11_7) = maskAt f k
  slots : V (Proc.devRef .tc main_v11_8) = slotsAt f k
  arg0 : V (Proc.devRef .tc main_arg0) = V₀ (Proc.devRef .tc main_arg0)
  arg1 : V (Proc.devRef .tc main_arg1) = V₀ (Proc.devRef .tc main_arg1)

theorem addi_one (k : ℕ) : addi (constantI S_ 32 (BitVec.ofNat 32 k)) (constantI S_ 32 1#32) = constantI S_ 32 (BitVec.ofNat 32 (k + 1)) := by
  funext j
  show BitVec.ofNat 32 k + 1#32 = BitVec.ofNat 32 (k + 1)
  rw [BitVec.ofNat_add]

theorem before_zero (V₀ : Valuation τ sig (Elt F)) : Before V₀ (V₀ (Proc.devRef .tc main_arg1)) (after preOps V₀) 0 where
  sal := pre_sal V₀
  bs := pre_bs V₀
  feat := pre_f V₀
  unit := pre_fn V₀
  ids := pre_ids V₀
  ctr := pre_ctr V₀
  rnd := pre_r V₀
  mask := pre_mask V₀
  slots := pre_slots V₀
  arg0 := (pre_args V₀).1
  arg1 := (pre_args V₀).2

theorem before_succ {V₀ V : Valuation τ sig (Elt F)} {f : FVec F S8x20000x128 .f32} {k : ℕ} (h : Before V₀ f V k) :
    Before V₀ f (after bodyOps (after condOps V)) (k + 1) := by
  obtain ⟨h0, h1, h2, h3, h6, h4, h5⟩ := body_keep V
  exact {
    sal := h0.trans h.sal
    bs := h1.trans h.bs
    feat := h2.trans h.feat
    unit := h3.trans h.unit
    ids := h6.trans h.ids
    ctr := by rw [body_ctr, h.ctr]; exact addi_one k
    rnd := by rw [body_r, h.rnd]; exact addi_one k
    mask := by rw [body_mask, h.mask, h.unit, h.feat, h.bs, h.sal]; rfl
    slots := by rw [body_slots, h.ids, h.mask, h.slots, h.feat, h.bs, h.sal, h.rnd]; rfl
    arg0 := h4.trans h.arg0
    arg1 := h5.trans h.arg1 }

end Cert.ReferenceIdeal.Sel

end
-- ==== Proof.Ref.Loop.lean ====
module

public import proofs.«01_k».proof.Proof.Ref.Run
public import Idealize.ShloMosaic.Lib.StableHlo.RunLoop
public import Idealize.ShloMosaic.Lib.StableHlo.RunHlo
public import Idealize.ShloMosaic.Lib.StableHlo.ReadAt
public import Idealize.ShloMosaic.Lib.Scf.ExitTest
public import Idealize.ShloMosaic.Lib.Quiescent
public import Idealize.ShloMosaic.Lib.Tactic
public import Idealize.ShloMosaic.PureOps.Ideal

@[expose] public section

set_option maxRecDepth 16384

noncomputable section

namespace Cert.ReferenceIdeal.Sel

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
open Idealize.ShloMosaic.Pipeline (ucRefs sub_ucRefs)

variable {F : FTy → Type} [FloatOps F]

theorem plain_pre : Plain [preOps (F := F)] := by
  refine Plain.cons ?_ Plain.nil (List.forall_iff_forall_mem.mp ?_)
  · unfold preOps preSeq line
    simp only [List.Forall]
    repeat
      refine And.intro ?_ ?_
      · first
          | with_reducible exact StableHlo.unary_bufs_sub ..
          | with_reducible exact StableHlo.binary_bufs_sub ..
          | with_reducible exact StableHlo.nullary_bufs_sub ..
    first
      | with_reducible exact StableHlo.unary_bufs_sub ..
      | with_reducible exact StableHlo.binary_bufs_sub ..
      | with_reducible exact StableHlo.nullary_bufs_sub ..
  · unfold preOps preSeq line
    simp only [List.Forall]
    repeat
      refine And.intro ?_ ?_
      · rfl
    rfl

set_option maxHeartbeats 2000000 in
theorem plain_body : Plain [bodyOps (F := F)] := by
  refine Plain.cons ?_ Plain.nil (List.forall_iff_forall_mem.mp ?_)
  · unfold bodyOps bodySeq line
    simp only [List.Forall]
    repeat
      refine And.intro ?_ ?_
      · first
          | with_reducible exact StableHlo.unary_bufs_sub ..
          | with_reducible exact StableHlo.binary_bufs_sub ..
          | with_reducible exact StableHlo.nullary_bufs_sub ..
          | with_reducible exact StableHlo.ternary_bufs_sub ..
          | with_reducible exact StableHlo.quaternary_bufs_sub ..
    first
      | with_reducible exact StableHlo.unary_bufs_sub ..
      | with_reducible exact StableHlo.binary_bufs_sub ..
      | with_reducible exact StableHlo.nullary_bufs_sub ..
      | with_reducible exact StableHlo.ternary_bufs_sub ..
      | with_reducible exact StableHlo.quaternary_bufs_sub ..
  · unfold bodyOps bodySeq line
    simp only [List.Forall]
    repeat
      refine And.intro ?_ ?_
      · rfl
    rfl

/-- The valuation at each run of the test. -/
theorem before_trip (m : (ℓ : Loc nD τ sig) → Buf (Elt F) ℓ) (c : Dev nD) (k : ℕ) :
    Before (launchContents m c) (launchContents m c (Proc.devRef .tc main_arg1))
      (atTrip condOps [bodyOps] (entryContents [preOps] m) k c) k := by
  induction k with
  | zero => exact before_zero (launchContents m c)
  | succ k ih => exact before_succ ih

theorem lt_iff (k : ℕ) (hk : k ≤ 16) : IntOp.cmpi .slt (BitVec.ofNat 32 k) 16#32 = 1#1 ↔ k < 16 := by
  have h : ∀ k : Fin 17, IntOp.cmpi .slt (BitVec.ofNat 32 k.val) 16#32 = 1#1 ↔ k.val < 16 := by decide
  exact h ⟨k, by omega⟩

set_option backward.isDefEq.respectTransparency.types false in
theorem cond_spec (m : (ℓ : Loc nD τ sig) → Buf (Elt F) ℓ) :
    CondSpec (pcfgs (F := F)) defs₀ loops main_while0_cond condOps [bodyOps] (entryContents [preOps] m) 16 := by
  intro k hk c bd
  have hctr := (before_trip m c k).ctr
  generalize atTrip condOps [bodyOps] (entryContents [preOps] m) k c = V at hctr ⊢
  unfold main_while0_cond
  rw [wp_bind]
  iintro ⟨Hb, Hh⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ V main_v11_5 HostLoop.idx0)
        (HloOp.result _ V main_while0c_c_11 HostLoop.idx0) = 1#1) (k < 16)
    rw [StableHlo.nullary_result_ne _ _ _ _ (by decide), StableHlo.nullary_result, hctr]
    exact lt_iff k hk
  isplitl [Hb]; · iexact Hb
  unfold condOps
  rw [StableHlo.after_cons, StableHlo.after_cons, StableHlo.after_nil]; iexact Hh

/-- Every run ends with the sixteen trips' slots in the result and the arguments unchanged. -/
theorem run [∀ e, Nonempty (Elt F e)] (m : (ℓ : Loc nD τ sig) → Buf (Elt F) ℓ) (g : Dev nD → PrngReg) :
    θ_run (defs (F := F)) (onTc (τ := τ) main) ⟨m, fun _ => 0, g⟩ (fun r => ∀ c : Dev nD,
      r.2.mem (c.tc.loc main_v11_8) = slotsAt (m (c.tc.loc main_arg1)) 16
      ∧ r.2.mem (c.tc.loc main_arg0) = m (c.tc.loc main_arg0)
      ∧ r.2.mem (c.tc.loc main_arg1) = m (c.tc.loc main_arg1)) := by
  refine θ_run_mono (run_loop (pcfgs (F := F)) defs₀ loops main 0 main_while0_cond main_while0_body rfl
    [preOps] [bodyOps] [] condOps plain_pre plain_body Plain.nil ?_ ?_ 16 m g (cond_spec m)) ?_
  · intro d
    rw [main_eq, show preProg (F := F) = seq preOps from preSeq.2]
    rfl
  · rw [show main_while0_body (F := F) = seq bodyOps from bodySeq.2]
    exact bind_pure_unit.symm
  · intro r h c
    have hb := before_trip m c 16
    have hf : finalContents condOps [preOps] [bodyOps] [] 16 m c = after condOps (atTrip condOps [bodyOps] (entryContents [preOps] m) 16 c) := rfl
    obtain ⟨k7, k0, k1⟩ := cond_keep (atTrip condOps [bodyOps] (entryContents [preOps] m) 16 c)
    refine ⟨?_, ?_, ?_⟩
    · rw [h c main_v11_8 rfl, hf, k7, hb.slots]
    · rw [h c main_arg0 rfl, hf, k0, hb.arg0]
    · rw [h c main_arg1 rfl, hf, k1, hb.arg1]

end Cert.ReferenceIdeal.Sel

end
-- ==== Proof.Ref.Value.lean ====
module

public import proofs.«01_k».proof.Proof.Ref.Run
public import Idealize.ShloMosaic.Lib.Pointwise

@[expose] public section

set_option maxRecDepth 16384

noncomputable section

/-! What the reference's operations compute over the extended reals, at an index. -/

namespace Cert.ReferenceIdeal.Sel

open Idealize.ShloMosaic Idealize.ShloMosaic.TcCoe

/-! ## The index of the first largest -/

/-- One step of the search: the larger value, and of two equal ones the one at the smaller index. -/
theorem step_eq (a b : EReal × BitVec 32) :
    reducer_argmax_f32_i32 (F := Ideal) a b
      = (if b.1 < a.1 then a.1 else b.1, if b.1 < a.1 ∨ (a.1 = b.1 ∧ a.2.slt b.2 = true) then a.2 else b.2) := by
  obtain ⟨a1, a2⟩ := a
  obtain ⟨b1, b2⟩ := b
  unfold reducer_argmax_f32_i32
  dsimp only
  have hg : FloatOps.cmpf (F := Ideal) (φ := .f32) .ogt a1 b1 = BitVec.ofBool (decide (b1 < a1)) := rfl
  have hn : FloatOps.cmpf (F := Ideal) (φ := .f32) .une a1 a1 = 0#1 := by
    show BitVec.ofBool (decide (a1 ≠ a1)) = 0#1
    simp
  have he : FloatOps.cmpf (F := Ideal) (φ := .f32) .oeq a1 b1 = BitVec.ofBool (decide (a1 = b1)) := rfl
  have hs : IntOp.cmpi .slt a2 b2 = BitVec.ofBool (a2.slt b2) := rfl
  rw [hg, hn, he, hs]
  by_cases h1 : b1 < a1 <;> by_cases h2 : a1 = b1 <;> cases h3 : a2.slt b2 <;>
    simp [h1, h2, h3, IntOp.ori, IntOp.andi, Scalar.select]

/-- A pair that bounds another: its value is larger, or the same at no larger an index. -/
def Beats (a b : EReal × BitVec 32) : Prop := b.1 ≤ a.1 ∧ (b.1 = a.1 → a.2.toNat ≤ b.2.toNat)

theorem Beats.trans {a b c : EReal × BitVec 32} (h : Beats a b) (h' : Beats b c) : Beats a c :=
  ⟨h'.1.trans h.1, fun e => by
    have h1 : b.1 = a.1 := le_antisymm h.1 (e ▸ h'.1)
    exact (h.2 h1).trans (h'.2 (e.trans h1.symm))⟩

theorem step_spec (a b : EReal × BitVec 32) (ha : a.2.toNat < 20000) (hb : b.2.toNat < 20000) :
    (reducer_argmax_f32_i32 (F := Ideal) a b = a ∨ reducer_argmax_f32_i32 (F := Ideal) a b = b)
      ∧ Beats (reducer_argmax_f32_i32 (F := Ideal) a b) a ∧ Beats (reducer_argmax_f32_i32 (F := Ideal) a b) b := by
  obtain ⟨a1, a2⟩ := a
  obtain ⟨b1, b2⟩ := b
  dsimp only at ha hb
  have e : a2.slt b2 = true ↔ a2.toNat < b2.toNat := by
    have h1 : a2.toInt = a2.toNat := by rw [BitVec.toInt_eq_toNat_cond, if_pos (by omega)]
    have h2 : b2.toInt = b2.toNat := by rw [BitVec.toInt_eq_toNat_cond, if_pos (by omega)]
    simp [BitVec.slt, h1, h2]
  rw [step_eq]
  simp only [e]
  rcases lt_trichotomy b1 a1 with h | h | h
  · rw [if_pos h, if_pos (.inl h)]
    exact ⟨.inl rfl, ⟨le_refl _, fun _ => le_refl _⟩, h.le, fun e => absurd e h.ne⟩
  · subst h
    rw [if_neg (lt_irrefl _)]
    by_cases hlt : a2.toNat < b2.toNat
    · rw [if_pos (.inr ⟨rfl, hlt⟩)]
      exact ⟨.inl rfl, ⟨le_refl _, fun _ => le_refl _⟩, le_refl _, fun _ => hlt.le⟩
    · rw [if_neg (by rintro (h | h); exacts [lt_irrefl _ h, hlt h.2])]
      exact ⟨.inr rfl, ⟨le_refl _, fun _ => not_lt.mp hlt⟩, le_refl _, fun _ => le_refl _⟩
  · rw [if_neg (not_lt.mpr h.le), if_neg (by rintro (h' | h'); exacts [lt_asymm h h', h.ne h'.1])]
    exact ⟨.inr rfl, ⟨h.le, fun e => absurd e h.ne⟩, le_refl _, fun _ => le_refl _⟩

theorem search_spec (L : List (EReal × BitVec 32)) : ∀ a : EReal × BitVec 32, (∀ q ∈ a :: L, q.2.toNat < 20000) →
    L.foldl (reducer_argmax_f32_i32 (F := Ideal)) a ∈ a :: L ∧ ∀ q ∈ a :: L, Beats (L.foldl (reducer_argmax_f32_i32 (F := Ideal)) a) q := by
  induction L with
  | nil =>
    intro a _
    refine ⟨List.mem_singleton.mpr rfl, fun q hq => ?_⟩
    rw [List.mem_singleton.mp hq]
    exact ⟨le_refl _, fun _ => le_refl _⟩
  | cons b L ih =>
    intro a h
    have ha := h a List.mem_cons_self
    have hb := h b (List.mem_cons_of_mem _ List.mem_cons_self)
    obtain ⟨h1, h2, h3⟩ := step_spec a b ha hb
    rw [List.foldl_cons]
    generalize reducer_argmax_f32_i32 (F := Ideal) a b = r at h1 h2 h3 ⊢
    obtain ⟨hm, hall⟩ := ih r (fun q hq => by
      rcases List.mem_cons.mp hq with rfl | hq
      · rcases h1 with rfl | rfl
        exacts [ha, hb]
      · exact h q (List.mem_cons_of_mem _ (List.mem_cons_of_mem _ hq)))
    refine ⟨?_, fun q hq => ?_⟩
    · rcases List.mem_cons.mp hm with e | hm
      · rw [e]
        rcases h1 with rfl | rfl
        exacts [List.mem_cons_self, List.mem_cons_of_mem _ List.mem_cons_self]
      · exact List.mem_cons_of_mem _ (List.mem_cons_of_mem _ hm)
    · have hr := hall r List.mem_cons_self
      rcases List.mem_cons.mp hq with rfl | hq
      · exact hr.trans h2
      rcases List.mem_cons.mp hq with rfl | hq
      · exact hr.trans h3
      · exact hall q (List.mem_cons_of_mem _ hq)

theorem ofBits_bot : Ideal.ofBits FTy.f32 4286578688#32 = ⊥ := by simp [Ideal.ofBits, Ideal.ieee]

theorem mem_fiber (x : S8x20000.Idx → EReal) (y : S8x20000.Idx → BitVec 32) (b : Fin 8) (q : EReal × BitVec 32) :
    q ∈ Host.argReduceFiber x y Facts₀.reducesTo_S8x20000_S8_d1 (ix1 b) ↔ ∃ i : Fin 20000, q = (x (ix2 b i), y (ix2 b i)) := by
  have hd : ∀ i : S8x20000.Idx, Facts₀.reducesTo_S8x20000_S8_d1.drop i = ix1 b ↔ i 0 = b := by
    intro i
    have hv : (Facts₀.reducesTo_S8x20000_S8_d1.drop i 0 : Nat) = i 0 := Shape.ReducesTo.drop_apply_val Facts₀.reducesTo_S8x20000_S8_d1 i 0
    constructor
    · intro e
      rw [e] at hv
      exact Fin.ext hv.symm
    · intro e
      funext c
      match c with
      | ⟨0, _⟩ => exact Fin.ext (hv.trans (congrArg Fin.val e))
  unfold Host.argReduceFiber
  rw [List.mem_map]
  constructor
  · rintro ⟨n, hn, rfl⟩
    have h0 := (hd _).mp (of_decide_eq_true (List.mem_filter.mp hn).2)
    refine ⟨S8x20000.rowMajor.symm n 1, ?_⟩
    have : S8x20000.rowMajor.symm n = ix2 b (S8x20000.rowMajor.symm n 1) := by
      rw [← h0]; exact eq_ix2 _
    exact Prod.ext (congrArg x this) (congrArg y this)
  · rintro ⟨i, rfl⟩
    refine ⟨S8x20000.rowMajor (ix2 b i), List.mem_filter.mpr ⟨List.mem_finRange _, ?_⟩, ?_⟩
    · rw [Equiv.symm_apply_apply]; exact decide_eq_true ((hd _).mpr rfl)
    · rw [Equiv.symm_apply_apply]

/-- The index chosen is the first of the largest products. -/
theorem top_spec (sal mask : S8x20000.Idx → EReal) (b : Fin 8) :
    ∃ i : Fin 20000, top (F := Ideal) sal mask (ix1 b) = BitVec.ofNat 32 i.val
      ∧ ∀ i' : Fin 20000, sal (ix2 b i') * mask (ix2 b i') ≤ sal (ix2 b i) * mask (ix2 b i)
        ∧ (sal (ix2 b i') * mask (ix2 b i') = sal (ix2 b i) * mask (ix2 b i) → i.val ≤ i'.val) := by
  unfold top
  rw [Ideal.argReduce_eq_reduce2, Host.reduce2_eq_foldl_fiber]
  have hmem := mem_fiber (mulf (F := Ideal) (φ := .f32) sal mask) (iotaInDim S8x20000 32 1) b
  generalize Host.argReduceFiber (mulf (F := Ideal) (φ := .f32) sal mask) (iotaInDim S8x20000 32 1) Facts₀.reducesTo_S8x20000_S8_d1 (ix1 b) = L at hmem ⊢
  have hy : ∀ i : Fin 20000, (iotaInDim S8x20000 32 1 (ix2 b i)) = BitVec.ofNat 32 i.val := fun i => rfl
  have hx : ∀ i : Fin 20000, mulf (F := Ideal) (φ := .f32) sal mask (ix2 b i) = sal (ix2 b i) * mask (ix2 b i) := fun i => rfl
  simp only [hy, hx] at hmem
  have hn : ∀ i : Fin 20000, (BitVec.ofNat 32 i.val).toNat = i.val := fun i => by
    have := i.isLt; rw [BitVec.toNat_ofNat]; omega
  obtain ⟨hm, hall⟩ := search_spec L (⊥, 0#32) (fun q hq => by
    rcases List.mem_cons.mp hq with rfl | hq
    · decide
    · obtain ⟨i, rfl⟩ := (hmem q).mp hq
      show (BitVec.ofNat 32 i.val).toNat < 20000
      rw [hn]; exact i.isLt)
  have hi : ((constant (F := Ideal) S_ .f32 0xFF800000#32) (Shape.Idx.first Facts₀.h_S_), (constantI S_ 32 0#32) (Shape.Idx.first Facts₀.h_S_))
      = ((⊥ : EReal), 0#32) := Prod.ext ofBits_bot rfl
  rw [hi]
  generalize L.foldl (reducer_argmax_f32_i32 (F := Ideal)) (⊥, 0#32) = r at hm hall ⊢
  have key : ∃ i : Fin 20000, r = (sal (ix2 b i) * mask (ix2 b i), BitVec.ofNat 32 i.val) := by
    rcases List.mem_cons.mp hm with e | hm
    · refine ⟨0, ?_⟩
      have h0 := (hall _ (List.mem_cons_of_mem _ ((hmem _).mpr ⟨0, rfl⟩))).1
      rw [e] at h0 ⊢
      exact Prod.ext (le_antisymm bot_le h0) rfl
    · exact (hmem r).mp hm
  obtain ⟨i, rfl⟩ := key
  refine ⟨i, rfl, fun i' => ?_⟩
  have h := hall _ (List.mem_cons_of_mem _ ((hmem _).mpr ⟨i', rfl⟩))
  refine ⟨h.1, fun e => ?_⟩
  have := h.2 e
  rwa [hn, hn] at this

/-! ## The gather -/

theorem toInt_small (k : ℕ) (h : k < 2 ^ 31) : (BitVec.ofNat 32 k).toInt = k := by
  have hk : (BitVec.ofNat 32 k).toNat = k := by rw [BitVec.toNat_ofNat]; omega
  rw [BitVec.toInt_eq_toNat_cond, hk, if_pos (by omega)]

theorem gather_val (x : S8x20000x128.Idx → EReal) (idx : IVec S8x2 32) (b : Fin 8) (d : Fin 128) (i : Fin 20000)
    (h0 : idx (ix2 b (0 : Fin 2)) = BitVec.ofNat 32 b.val) (h1 : idx (ix2 b (1 : Fin 2)) = BitVec.ofNat 32 i.val) :
    Host.gather gather_S8x20000x128_S8x2_S8x128_1_01_n_n_01_1_11128 x idx (ix2 b d) = x (ix3 b i d) := by
  unfold Host.gather
  refine congrArg x (funext fun a => Fin.ext ?_)
  match a with
  | ⟨0, _⟩ =>
    have e : gather_S8x20000x128_S8x2_S8x128_1_01_n_n_01_1_11128.start (ix2 b d) idx 0 = min (idx (ix2 b (0 : Fin 2))).toInt.toNat (8 - 1) := by
      unfold GatherDims.start
      rw [dif_pos (by decide)]
      refine congrArg (fun z : S8x2.Idx => min (idx z).toInt.toNat (8 - 1)) (funext fun c => ?_)
      match c with
      | ⟨0, _⟩ => rfl
      | ⟨1, _⟩ => rfl
    show gather_S8x20000x128_S8x2_S8x128_1_01_n_n_01_1_11128.start (ix2 b d) idx 0 + 0 + 0 = b.val
    have := b.isLt
    rw [e, h0, toInt_small _ (by omega)]
    omega
  | ⟨1, _⟩ =>
    have e : gather_S8x20000x128_S8x2_S8x128_1_01_n_n_01_1_11128.start (ix2 b d) idx 1 = min (idx (ix2 b (1 : Fin 2))).toInt.toNat (20000 - 1) := by
      unfold GatherDims.start
      rw [dif_pos (by decide)]
      refine congrArg (fun z : S8x2.Idx => min (idx z).toInt.toNat (20000 - 1)) (funext fun c => ?_)
      match c with
      | ⟨0, _⟩ => rfl
      | ⟨1, _⟩ => rfl
    show gather_S8x20000x128_S8x2_S8x128_1_01_n_n_01_1_11128.start (ix2 b d) idx 1 + 0 + 0 = i.val
    have := i.isLt
    rw [e, h1, toInt_small _ (by omega)]
    omega
  | ⟨2, _⟩ =>
    show 0 + 0 + d.val = d.val
    omega

/-! ## The values at an index -/

theorem norms_val (f : S8x20000x128.Idx → EReal) (b : Fin 8) (i : Fin 20000) :
    norms (F := Ideal) f (ix2 b i) = Ideal.sqrt (∑ d : Fin 128, f (ix3 b i d) * f (ix3 b i d)) := by
  pointwise [norms]

theorem units_val (f : S8x20000x128.Idx → EReal) (b : Fin 8) (i : Fin 20000) (d : Fin 128) :
    units (F := Ideal) f (ix3 b i d)
      = Ideal.div (f (ix3 b i d)) (max (Ideal.sqrt (∑ d : Fin 128, f (ix3 b i d) * f (ix3 b i d))) (Ideal.ofBits FTy.f32 730643660#32)) := by
  pointwise [units]

theorem rowUnits_val (x : S8x128.Idx → EReal) (b : Fin 8) (d : Fin 128) :
    rowUnits (F := Ideal) x (ix2 b d)
      = Ideal.div (x (ix2 b d)) (max (Ideal.sqrt (∑ d : Fin 128, x (ix2 b d) * x (ix2 b d))) (Ideal.ofBits FTy.f32 730643660#32)) := by
  pointwise [rowUnits]

theorem sims_val (fn : S8x20000x128.Idx → EReal) (x : S8x128.Idx → EReal) (b : Fin 8) (i : Fin 20000) :
    sims (F := Ideal) fn x (ix2 b i) = ∑ d : Fin 128, fn (ix3 b i d) * rowUnits (F := Ideal) x (ix2 b d) := by
  unfold sims
  generalize rowUnits (F := Ideal) x = u
  pointwise

theorem keep_val (s : S8x20000.Idx → EReal) (b : Fin 8) (i : Fin 20000) :
    keep (F := Ideal) s (ix2 b i) = 1 - min 1 (max 0 (s (ix2 b i))) := by
  pointwise [keep]

theorem wrap_val (n : BitVec 32) (i : IVec S8 32) (b : Fin 8) (k : ℕ) (hk : k < 2 ^ 31) (h : i (ix1 b) = BitVec.ofNat 32 k) :
    wrap n i (ix1 b) = BitVec.ofNat 32 k := by
  have e : IntOp.cmpi .slt (i (ix1 b)) 0#32 = 0#1 := by
    have h0 := toInt_small k hk
    rw [h]
    show BitVec.ofBool ((BitVec.ofNat 32 k).slt 0#32) = 0#1
    have : (BitVec.ofNat 32 k).slt 0#32 = false := by
      rw [BitVec.slt, h0]
      exact decide_eq_false (by simp)
    rw [this]; rfl
  show Scalar.select (IntOp.cmpi .slt (i (ix1 b)) 0#32) (IntOp.addi (i (ix1 b)) n) (i (ix1 b)) = BitVec.ofNat 32 k
  rw [e]
  exact h

theorem cols_val (a b : IVec S8 32) (j : Fin 8) :
    cols (broadcastInDim S8x1 ![0] Facts₀.bcast_S8_S8x1_0 a) (broadcastInDim S8x1 ![0] Facts₀.bcast_S8_S8x1_0 b) (ix2 j (0 : Fin 2)) = a (ix1 j)
      ∧ cols (broadcastInDim S8x1 ![0] Facts₀.bcast_S8_S8x1_0 a) (broadcastInDim S8x1 ![0] Facts₀.bcast_S8_S8x1_0 b) (ix2 j (1 : Fin 2)) = b (ix1 j) := by
  constructor
  · pointwise [cols]
  · pointwise [cols]

theorem rows_val (f : S8x20000x128.Idx → EReal) (is : IVec S8 32) (b : Fin 8) (d : Fin 128) (i : Fin 20000)
    (h : is (ix1 b) = BitVec.ofNat 32 i.val) :
    rows (F := Ideal) f (iotaInDim S8 32 0) is (ix2 b d) = f (ix3 b i d) := by
  have hb := b.isLt
  have hi := i.isLt
  exact gather_val f _ b d i ((cols_val _ _ b).1.trans (wrap_val _ _ b b.val (by omega) rfl))
    ((cols_val _ _ b).2.trans (wrap_val _ _ b i.val (by omega) h))

theorem store_val (k : ℕ) (hk : k < 16) (slots : S8x16x128.Idx → EReal) (x : S8x128.Idx → EReal) (b : Fin 8) (r : Fin 16) (d : Fin 128) :
    store (F := Ideal) slotIds (constantI S_ 32 (BitVec.ofNat 32 k)) slots x (ix3 b r d)
      = if r.val = k then x (ix2 b d) else slots (ix3 b r d) := by
  pointwise [store, slotIds]
  have hr := r.isLt
  by_cases h : r.val = k
  · rw [if_pos h, h]
    have e : IntOp.cmpi .eq (BitVec.ofNat 32 k) (BitVec.ofNat 32 k) = 1#1 := by
      show BitVec.ofBool (BitVec.ofNat 32 k == BitVec.ofNat 32 k) = 1#1
      simp
    rw [e]; rfl
  · rw [if_neg h]
    have e : IntOp.cmpi .eq (BitVec.ofNat 32 r.val) (BitVec.ofNat 32 k) = 0#1 := by
      show BitVec.ofBool (BitVec.ofNat 32 r.val == BitVec.ofNat 32 k) = 0#1
      have hne : (BitVec.ofNat 32 r.val == BitVec.ofNat 32 k) = false := by
        apply beq_eq_false_iff_ne.mpr
        intro e
        have := congrArg BitVec.toNat e
        rw [BitVec.toNat_ofNat, BitVec.toNat_ofNat] at this
        omega
      rw [hne]; rfl
    rw [e]; rfl

end Cert.ReferenceIdeal.Sel

end
-- ==== Proof.Equal.lean ====
module

public import proofs.«01_k».proof.Proof.Run
public import proofs.«01_k».proof.Proof.Ref.Value
public import Idealize.ShloMosaic.Lib.Pointwise

@[expose] public section

set_option maxRecDepth 16384

noncomputable section

/-! For finite features the kernel's value and the reference's are the same. -/

namespace Cert.Equal

open Idealize.ShloMosaic Idealize.ShloMosaic.TcCoe
open Cert.KernelIdeal (S8x20000x128 S8x2500)
open Cert.KernelIdeal.Sel (eps uE salE simE rowE simF gi gi_val salF msNext msAt idxW idxW_spec idxW_lt pt pt_val pickF outF sample outAll)
open Cert.ReferenceIdeal.Sel (norms units top sims keep rows rowUnits maskAt rowsAt slotsAt norms_val units_val rowUnits_val sims_val
  keep_val rows_val store_val top_spec)

/-- A value that is neither infinity. -/
def Fine (x : EReal) : Prop := x ≠ ⊤ ∧ x ≠ ⊥

theorem Fine.mul {x y : EReal} (hx : Fine x) (hy : Fine y) : Fine (x * y) := by
  lift x to ℝ using hx
  lift y to ℝ using hy
  rw [← EReal.coe_mul]
  exact ⟨EReal.coe_ne_top _, EReal.coe_ne_bot _⟩

theorem Fine.sub_self {x : EReal} (hx : Fine x) : x - x = 0 := EReal.sub_self hx.1 hx.2

theorem fin_inv (x : EReal) : Fine x⁻¹ := by
  induction x with
  | bot => rw [EReal.inv_bot]; exact ⟨EReal.zero_ne_top, EReal.zero_ne_bot⟩
  | top => rw [EReal.inv_top]; exact ⟨EReal.zero_ne_top, EReal.zero_ne_bot⟩
  | coe r => rw [← EReal.coe_inv]; exact ⟨EReal.coe_ne_top _, EReal.coe_ne_bot _⟩

theorem eps_pos : 0 < eps := by
  unfold eps
  simp [Ideal.ofBits, Ideal.ieee]
  exact EReal.mul_pos (EReal.coe_pos.mpr (by norm_num)) (EReal.coe_pos.mpr (by positivity))

theorem max_eps_ne (n : EReal) : max n eps ≠ 0 := (lt_of_lt_of_le eps_pos (le_max_right n eps)).ne'

theorem div_max (x n : EReal) : Ideal.div x (max n eps) = x * (max n eps)⁻¹ := by
  unfold Ideal.div
  rw [if_neg (max_eps_ne n)]

/-! ## The kernel's values of a finite row -/

variable {v u a : Fin 128 → EReal}

theorem uE_eq (v : Fin 128 → EReal) (d : Fin 128) : uE v d = Ideal.div (v d) (max (Ideal.sqrt (∑ x, v x * v x)) eps) := by
  unfold uE
  rw [div_max, div_max, one_mul]

theorem fin_uE (hv : ∀ d, Fine (v d)) (d : Fin 128) : Fine (uE v d) := by
  rw [uE_eq, div_max]
  exact (hv d).mul (fin_inv _)

theorem salE_eq (hv : ∀ d, Fine (v d)) : salE v = Ideal.sqrt (∑ x, v x * v x) := by
  unfold salE
  rw [Finset.sum_eq_zero (f := fun x => v x * v x - v x * v x) fun x _ => ((hv x).mul (hv x)).sub_self, add_zero]

theorem simE_eq (hu : ∀ d, Fine (u d)) (ha : ∀ d, Fine (a d)) : simE u a = ∑ d, a d * u d := by
  have h1 : ∀ d, u d - u d = 0 := fun d => (hu d).sub_self
  have h2 : ∀ d, a d - a d = 0 := fun d => (ha d).sub_self
  unfold simE
  simp only [h1, h2, zero_mul, mul_zero, Finset.sum_const_zero, add_zero]
  exact Finset.sum_congr rfl fun d _ => mul_comm _ _

/-! ## Round by round -/

theorem gi_surj (i : Fin 20000) : ∃ s x, gi s x = i := by
  have := i.isLt
  refine ⟨⟨i.val / 2500, by omega⟩, ⟨i.val % 2500, by omega⟩, Fin.ext ?_⟩
  rw [gi_val]
  show 2500 * (i.val / 2500) + i.val % 2500 = i.val
  omega

variable (x : S8x20000x128.Idx → EReal) (hx : ∀ j, Fine (x j)) (b : Fin 8)

theorem row_eq (i : Fin 20000) (d : Fin 128) : rowE (sample x b) i d = x (ix3 b i d) := rfl

include hx in
theorem saliency_eq (s : Fin 8) (y : Fin 2500) : salF (sample x b) (ix2 s y) = norms (F := Ideal) x (ix2 b (gi s y)) := by
  rw [norms_val]
  exact salE_eq fun d => hx _

theorem unit_eq (i : Fin 20000) (d : Fin 128) : units (F := Ideal) x (ix3 b i d) = uE (rowE (sample x b) i) d := by
  rw [units_val, uE_eq]
  rfl

/-- The same products have the same first largest. -/
theorem top_eq (ms : S8x2500.Idx → EReal) (sal mask : Cert.ReferenceIdeal.S8x20000.Idx → EReal)
    (h : ∀ s y, sal (ix2 b (gi s y)) * mask (ix2 b (gi s y)) = ms (ix2 s y)) :
    top (F := Ideal) sal mask (ix1 b) = BitVec.ofNat 32 (pt (idxW ms)).val := by
  obtain ⟨i, hi, hall⟩ := top_spec sal mask b
  obtain ⟨s, y, hw, hall'⟩ := idxW_spec ms
  obtain ⟨s', y', rfl⟩ := gi_surj i
  rw [hi, pt_val (idxW_lt ms), hw]
  obtain ⟨h1, h2⟩ := hall (gi s y)
  obtain ⟨h3, h4⟩ := hall' s' y'
  rw [h, h] at h1 h2
  have e := le_antisymm h3 h1
  have h5 := h2 e.symm
  have h6 := h4 e
  rw [gi_val, gi_val] at h5
  rw [gi_val]
  exact congrArg _ (le_antisymm h5 h6)

include hx in
theorem mask_eq (k : ℕ) : ∀ s y, norms (F := Ideal) x (ix2 b (gi s y)) * maskAt (F := Ideal) x k (ix2 b (gi s y)) = msAt (sample x b) k (ix2 s y) := by
  induction k with
  | zero =>
    intro s y
    have e : maskAt (F := Ideal) x 0 (ix2 b (gi s y)) = 1 := by
      show Ideal.ofBits FTy.f32 0x3F800000#32 = 1
      pointwise
    rw [e, mul_one]
    exact (saliency_eq x hx b s y).symm
  | succ k ih =>
    intro s y
    have ht := top_eq b (msAt (sample x b) k) (norms (F := Ideal) x) (maskAt (F := Ideal) x k) ih
    have hs : sims (F := Ideal) (units x) (rowsAt (F := Ideal) x k) (ix2 b (gi s y))
        = simF (sample x b) (pt (idxW (msAt (sample x b) k))) (gi s y) := by
      have fin_row : ∀ i d, Fine (uE (rowE (sample x b) i) d) := fun i d => fin_uE (fun d => hx _) d
      unfold simF
      rw [sims_val, simE_eq (fin_row (pt (idxW (msAt (sample x b) k)))) (fin_row (gi s y))]
      refine Finset.sum_congr rfl fun d _ => ?_
      rw [unit_eq, rowUnits_val, uE_eq (rowE (sample x b) (pt _))]
      have hr : ∀ d, rowsAt (F := Ideal) x k (ix2 b d) = x (ix3 b (pt (idxW (msAt (sample x b) k))) d) := fun d => rows_val x _ b d _ ht
      simp only [hr]
      rfl
    have e : maskAt (F := Ideal) x (k + 1) (ix2 b (gi s y)) = maskAt (F := Ideal) x k (ix2 b (gi s y))
        * keep (F := Ideal) (sims (F := Ideal) (units x) (rowsAt (F := Ideal) x k)) (ix2 b (gi s y)) := rfl
    rw [e, keep_val, hs, ← mul_assoc, ih]
    rfl

include hx in
theorem slots_eq (k : ℕ) (hk : k ≤ 16) : ∀ (r : Fin 16) (d : Fin 128), r.val < k →
    slotsAt (F := Ideal) x k (ix3 b r d) = outAll x (ix3 b r d) := by
  induction k with
  | zero => intro r d h; exact absurd h (Nat.not_lt_zero _)
  | succ k ih =>
    intro r d h
    have e : slotsAt (F := Ideal) x (k + 1) (ix3 b r d) = if r.val = k then rowsAt (F := Ideal) x k (ix2 b d) else slotsAt (F := Ideal) x k (ix3 b r d) :=
      store_val k hk _ _ b r d
    rw [e]
    by_cases hr : r.val = k
    · rw [if_pos hr]
      have := rows_val x _ b d _ (top_eq b (msAt (sample x b) k) (norms (F := Ideal) x) (maskAt (F := Ideal) x k) (mask_eq x hx b k))
      refine this.trans ?_
      subst hr
      rfl
    · rw [if_neg hr]
      exact ih (by omega) r d (by omega)

include hx in
theorem output_eq : slotsAt (F := Ideal) x 16 = outAll x := by
  funext j
  obtain ⟨j0, j1, j2, rfl⟩ : ∃ (a : Fin 8) (b : Fin 16) (c : Fin 128), j = ix3 a b c := ⟨j 0, j 1, j 2, eq_ix3 j⟩
  exact slots_eq x hx j0 16 (le_refl _) j1 j2 j1.isLt

end Cert.Equal

end
-- ==== Proof.lean ====
module

public import proofs.«01_k».proof.Defs
public import proofs.«01_k».proof.Proof.Run
public import proofs.«01_k».proof.Proof.Ref.Loop
public import proofs.«01_k».proof.Proof.Equal
public import proofs.«01_k».proof.Proof.Gen.Pre_finite
public import Idealize.ShloMosaic.Adequacy
public import Idealize.ShloMosaic.Init

@[expose] public section

noncomputable section

namespace Cert.Proof

open Idealize.ShloMosaic Idealize.SL.Sem Idealize.ShloMosaic.TcCoe

theorem quiescent_kernel (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
        ∧ r.2.sem = fun _ => 0) :=
  θ_run_mono (Cert.KernelIdeal.Sel.run m g) fun _ h => ⟨fun c => (h.1 c).2, h.2⟩

theorem quiescent_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
        ∧ r.2.sem = fun _ => 0) :=
  θ_run_mono (Cert.ReferenceIdeal.Sel.run m g) fun r h =>
    ⟨fun c => (h c).2, sem_eq_zero_of_no_sems (by decide) r.2⟩

/-- A feature whose absolute value is below the infinity is neither infinity. -/
theorem fine_of_finite (w : IVec Cert.Pre_finite.S_ 32) (x : FVec Ideal Cert.Pre_finite.S8x20000x128 .f32)
    (h : Cert.Pre_finite.fn (F := Ideal) w x = fun _ => 1#1) (j : Cert.Pre_finite.S8x20000x128.Idx) : Cert.Equal.Fine (x j) := by
  have e : BitVec.ofBool (decide (max (x j) (-(x j)) < Ideal.ofBits FTy.f32 0x7F800000#32)) = 1#1 := congrFun h j
  have ht : Ideal.ofBits FTy.f32 0x7F800000#32 = ⊤ := by simp [Ideal.ofBits, Ideal.ieee]
  rw [ht] at e
  have hlt : max (x j) (-(x j)) < ⊤ := by
    by_contra hn
    rw [decide_eq_false hn] at e
    exact absurd e (by decide)
  obtain ⟨h1, h2⟩ := max_lt_iff.mp hlt
  refine ⟨h1.ne, fun hb => ?_⟩
  rw [hb, EReal.neg_bot] at h2
  exact lt_irrefl _ h2

theorem algebraic : Cert.algebraic_KernelIdeal_ReferenceIdeal_pre_finite := by
  intro m g m' g' hp hm
  refine ⟨fun c => Cert.KernelIdeal.Sel.outAll (m ((c.tc : Thread Cert.KernelIdeal.nD Cert.KernelIdeal.τ).loc Cert.KernelIdeal.main_arg1)),
    θ_run_mono (Cert.KernelIdeal.Sel.run m g) fun _ h c => h.1 c,
    θ_run_mono (Cert.ReferenceIdeal.Sel.run m' g') fun _ h c => ⟨(h c).1.trans ?_, (h c).2⟩⟩
  rw [(hm c).2]
  exact Cert.Equal.output_eq _ (fine_of_finite _ _ (hp c))

theorem claim : Cert.Claim :=
  ⟨Cert.KernelIdeal.Gen.facts, Cert.ReferenceIdeal.Gen.facts, Cert.Pre_finite.Gen.facts,
    fun m g _ => quiescent_kernel m g, fun m g _ => quiescent_kernel m g,
    fun m g _ => quiescent_reference m g, fun m g _ => quiescent_reference m g, algebraic⟩

end Cert.Proof

end
